-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![1, 4096, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1x1024x1024 .f32) (main_arg1 : FVec F S1024x1024 .f32) (main_arg2 : FVec F S1x1024x32x128 .f32) (main_arg3 : FVec F S1x1024x32x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x32x128 .f32 := Host.absf main_arg2
  let main_cst_2 : FVec F S_ .f32 := constant S_ .f32 0x7F800000#32
  let main_v10 : FVec F S1x1024x32x128 .f32 := broadcastInDim S1x1024x32x128 ![] bcast_S_S1x1024x32x128 main_cst_2
  let main_v11 : IVec S1x1024x32x128 1 := cmpf .olt main_v9 main_v10
  let main_c_3 : IVec S_ 1 := constantI S_ 1 1#1
  let main_v12 : IVec S_ 1 := (fun x v => Host.reduce IntOp.andi x v reducesTo_S1x1024x32x128_S_d0_1_2_3 h_S_) main_v11 main_c_3
  let main_v13 : IVec S_ 1 := andi main_v8 main_v12
  main_v13
-- ==== Pre_finite_inputs_ReferenceIdeal.lean ====
abbrev S1x4096x1024 : Shape := ⟨3, ![1, 4096, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1x4096x1024 .f32) (main_arg1 : FVec F S1024x4096 .f32) (main_arg2 : FVec F S1x1024x32x128 .f32) (main_arg3 : FVec F S1x1024x32x128 .f32) (main_arg4 : FVec F S4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x1024x32x128 .f32 := Host.absf main_arg2
  let main_cst_2 : FVec F S_ .f32 := constant S_ .f32 0x7F800000#32
  let main_v10 : FVec F S1x1024x32x128 .f32 := broadcastInDim S1x1024x32x128 ![] bcast_S_S1x1024x32x128 main_cst_2
  let main_v11 : IVec S1x1024x32x128 1 := cmpf .olt main_v9 main_v10
  let main_c_3 : IVec S_ 1 := constantI S_ 1 1#1
  let main_v12 : IVec S_ 1 := (fun x v => Host.reduce IntOp.andi x v reducesTo_S1x1024x32x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S4x1024x1024 : Shape := ⟨3, ![4, 1024, 1024]⟩
abbrev S2x1024x128 : Shape := ⟨3, ![2, 1024, 128]⟩
abbrev S3 : Shape := ⟨1, ![3]⟩
abbrev S2x2 : Shape := ⟨2, ![2, 2]⟩
abbrev S1x1 : Shape := ⟨2, ![1, 1]⟩
abbrev S_ : Shape := ⟨0, ![]⟩
abbrev S1x1024x128 : Shape := ⟨3, ![1, 1024, 128]⟩
abbrev S1024x128 : Shape := ⟨2, ![1024, 128]⟩
abbrev S1x1024x1x128 : Shape := ⟨4, ![1, 1024, 1, 128]⟩
abbrev S1 : Shape := ⟨1, ![1]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x32x128, .f32⟩
  | .hbm, ⟨3, _⟩ => ⟨S1x1024x32x128, .f32⟩
  | .hbm, ⟨4, _⟩ => ⟨S1024x1024, .f32⟩
  | .hbm, ⟨5, _⟩ => ⟨S1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S4x1024x1024, .bf16⟩
  | .local _ .vmem, ⟨5, _⟩ => ⟨S4x1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S2x1024x128, .f32⟩
  | .local _ .vmem, ⟨10, _⟩ => ⟨S2x1024x128, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) : Fin 4 → Nat :=
  let c0_i32 : BitVec 32 := 0#32
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v8 : BitVec 32 := Scalar.muli v2 c8_i32
  let c0_i32_11 : BitVec 32 := 0#32
  ![0, 0, v8.toNat, 0]
def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_21 : BitVec 32 := 1#32
  let v22 : BitVec 32 := Scalar.muli v7 c1_i32_21
  let v23 : BitVec 32 := Scalar.addi c0_i32_22 v22
  v23.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_24 : BitVec 32 := 1#32
  let v24 : BitVec 32 := Scalar.muli v4 c1_i32_24
  let v25 : BitVec 32 := Scalar.addi c0_i32_25 v24
  v25.toNat
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v29 : Index := Scalar.indexCast v2
  let c0_27 : Index := 0#32
  let c0_28 : Index := 0#32
  ![v29.toNat, 0, 0]
def k0_off3 (d0 : Dev nD) (c0_i32_57 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v114 : BitVec 32 := Scalar.subi v2 c0_i32_57
  let c4_i32_58 : BitVec 32 := 4#32
  let v115 : BitVec 32 := Scalar.addi v114 c4_i32_58
  let c4_i32_59 : BitVec 32 := 4#32
  let v116 : BitVec 32 := Scalar.remsi v115 c4_i32_59
  let c0_i32_68 : BitVec 32 := 0#32
  let c0_i32_69 : BitVec 32 := 0#32
  ![v116.toNat, 0, 0]
def k0_dev3 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_66 : BitVec 32 := 1#32
  let v121 : BitVec 32 := Scalar.muli v4 c1_i32_66
  let v122 : BitVec 32 := Scalar.addi c0_i32_67 v121
  v122.toNat
def k0_dev4 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_74 : BitVec 32 := 1#32
  let v131 : BitVec 32 := Scalar.muli v4 c1_i32_74
  let v132 : BitVec 32 := Scalar.addi c0_i32_75 v131
  v132.toNat
def k0_off4 (d0 : Dev nD) (c0_i32_57 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v114 : BitVec 32 := Scalar.subi v2 c0_i32_57
  let c4_i32_58 : BitVec 32 := 4#32
  let v115 : BitVec 32 := Scalar.addi v114 c4_i32_58
  let c4_i32_59 : BitVec 32 := 4#32
  let v116 : BitVec 32 := Scalar.remsi v115 c4_i32_59
  let v141 : Index := Scalar.indexCast v116
  let c0_80 : Index := 0#32
  let c0_81 : Index := 0#32
  ![v141.toNat, 0, 0]
@[reducible] def k0_t1_loop : Scf.Loop 32 :=
  let c0_i32_86 : BitVec 32 := 0#32
  let c8_i32_87 : BitVec 32 := 8#32
  let v151 : BitVec 32 := Scalar.addi c0_i32_86 c8_i32_87
  let c1_i32_88 : BitVec 32 := 1#32
  ⟨c0_i32_86, v151, c1_i32_88⟩
def k0_off5 (k0_t1 : Fin k0_t1_loop.trips) : Fin 2 → Nat :=
  let c0_i32_86 : BitVec 32 := 0#32
  let c1_i32_88 : BitVec 32 := 1#32
  let arg18 : BitVec 32 := Scf.iv c0_i32_86 c1_i32_88 k0_t1
  let c2_i32_294 : BitVec 32 := 2#32
  let v361 : BitVec 32 := Scalar.remsi arg18 c2_i32_294
  let c0_i32_297 : BitVec 32 := 0#32
  ![v361.toNat, 0]
def k0_off6 (k0_t1 : Fin k0_t1_loop.trips) : Fin 3 → Nat :=
  let c0_i32_86 : BitVec 32 := 0#32
  let c1_i32_88 : BitVec 32 := 1#32
  let arg18 : BitVec 32 := Scf.iv c0_i32_86 c1_i32_88 k0_t1
  let c2_i32_294 : BitVec 32 := 2#32
  let v361 : BitVec 32 := Scalar.remsi arg18 c2_i32_294
  let c0_i32_298 : BitVec 32 := 0#32
  let c0_i32_299 : BitVec 32 := 0#32
  ![v361.toNat, 0, 0]
def k0_off7 (d0 : Dev nD) (k0_t1 : Fin k0_t1_loop.trips) : Fin 4 → Nat :=
  let c0_i32_296 : BitVec 32 := 0#32
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_57 : BitVec 32 := 0#32
  let v114 : BitVec 32 := Scalar.subi v2 c0_i32_57
  let c4_i32_58 : BitVec 32 := 4#32
  let v115 : BitVec 32 := Scalar.addi v114 c4_i32_58
  let c4_i32_59 : BitVec 32 := 4#32
  let v116 : BitVec 32 := Scalar.remsi v115 c4_i32_59
  let c8_i32_295 : BitVec 32 := 8#32
  let v362 : BitVec 32 := Scalar.muli v116 c8_i32_295
  let c0_i32_86 : BitVec 32 := 0#32
  let c1_i32_88 : BitVec 32 := 1#32
  let arg18 : BitVec 32 := Scf.iv c0_i32_86 c1_i32_88 k0_t1
  let v363 : BitVec 32 := Scalar.addi v362 arg18
  let c0_i32_301 : BitVec 32 := 0#32
  ![0, 0, v363.toNat, 0]
def k0_off8 (k0_t1 : Fin k0_t1_loop.trips) : Fin 2 → Nat :=
  let c0_i32_86 : BitVec 32 := 0#32
  let c1_i32_88 : BitVec 32 := 1#32
  let arg18 : BitVec 32 := Scf.iv c0_i32_86 c1_i32_88 k0_t1
  let c2_i32_294 : BitVec 32 := 2#32
  let v361 : BitVec 32 := Scalar.remsi arg18 c2_i32_294
  let c1_i32_303 : BitVec 32 := 1#32
  ![v361.toNat, 1]
def k0_off9 (k0_t1 : Fin k0_t1_loop.trips) : Fin 2 → Nat :=
  let c0_i32_86 : BitVec 32 := 0#32
  let c1_i32_88 : BitVec 32 := 1#32
  let arg18 : BitVec 32 := Scf.iv c0_i32_86 c1_i32_88 k0_t1
  let c1_i32_310 : BitVec 32 := 1#32
  let v380 : BitVec 32 := Scalar.addi arg18 c1_i32_310
  let c2_i32_311 : BitVec 32 := 2#32
  let v381 : BitVec 32 := Scalar.remsi v380 c2_i32_311
  let c0_i32_313 : BitVec 32 := 0#32
  ![v381.toNat, 0]
def k0_off10 (k0_t1 : Fin k0_t1_loop.trips) : Fin 3 → Nat :=
  let c0_i32_86 : BitVec 32 := 0#32
  let c1_i32_88 : BitVec 32 := 1#32
  let arg18 : BitVec 32 := Scf.iv c0_i32_86 c1_i32_88 k0_t1
  let c1_i32_310 : BitVec 32 := 1#32
  let v380 : BitVec 32 := Scalar.addi arg18 c1_i32_310
  let c2_i32_311 : BitVec 32 := 2#32
  let v381 : BitVec 32 := Scalar.remsi v380 c2_i32_311
  let c0_i32_314 : BitVec 32 := 0#32
  let c0_i32_315 : BitVec 32 := 0#32
  ![v381.toNat, 0, 0]
def k0_off11 (d0 : Dev nD) (k0_t1 : Fin k0_t1_loop.trips) : Fin 4 → Nat :=
  let c0_i32_312 : BitVec 32 := 0#32
  let c0_i32_316 : BitVec 32 := 0#32
  let c0_i32_86 : BitVec 32 := 0#32
  let c1_i32_88 : BitVec 32 := 1#32
  let arg18 : BitVec 32 := Scf.iv c0_i32_86 c1_i32_88 k0_t1
  let c7_i32 : BitVec 32 := 7#32
  let v376 : BitVec 1 := Scalar.cmpi .slt arg18 c7_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_57 : BitVec 32 := 0#32
  let v114 : BitVec 32 := Scalar.subi v2 c0_i32_57
  let c4_i32_58 : BitVec 32 := 4#32
  let v115 : BitVec 32 := Scalar.addi v114 c4_i32_58
  let c4_i32_59 : BitVec 32 := 4#32
  let v116 : BitVec 32 := Scalar.remsi v115 c4_i32_59
  let c8_i32_295 : BitVec 32 := 8#32
  let v362 : BitVec 32 := Scalar.muli v116 c8_i32_295
  let v363 : BitVec 32 := Scalar.addi v362 arg18
  let c1_i32_308 : BitVec 32 := 1#32
  let v377 : BitVec 32 := Scalar.addi v363 c1_i32_308
  let c0_i32_60 : BitVec 32 := 0#32
  let v117 : BitVec 32 := Scalar.subi v2 c0_i32_60
  let c1_i32_61 : BitVec 32 := 1#32
  let v118 : BitVec 32 := Scalar.subi v117 c1_i32_61
  let c4_i32_62 : BitVec 32 := 4#32
  let v119 : BitVec 32 := Scalar.addi v118 c4_i32_62
  let c4_i32_63 : BitVec 32 := 4#32
  let v120 : BitVec 32 := Scalar.remsi v119 c4_i32_63
  let c8_i32_309 : BitVec 32 := 8#32
  let v378 : BitVec 32 := Scalar.muli v120 c8_i32_309
  let v379 : BitVec 32 := Scalar.select v376 v377 v378
  let c0_i32_317 : BitVec 32 := 0#32
  ![0, 0, v379.toNat, 0]
def k0_off12 (k0_t1 : Fin k0_t1_loop.trips) : Fin 2 → Nat :=
  let c0_i32_86 : BitVec 32 := 0#32
  let c1_i32_88 : BitVec 32 := 1#32
  let arg18 : BitVec 32 := Scf.iv c0_i32_86 c1_i32_88 k0_t1
  let c1_i32_310 : BitVec 32 := 1#32
  let v380 : BitVec 32 := Scalar.addi arg18 c1_i32_310
  let c2_i32_311 : BitVec 32 := 2#32
  let v381 : BitVec 32 := Scalar.remsi v380 c2_i32_311
  let c1_i32_319 : BitVec 32 := 1#32
  ![v381.toNat, 1]
def k0_off13 (k0_t1 : Fin k0_t1_loop.trips) : Fin 2 → Nat :=
  let c0_324 : Index := 0#32
  let c0_i32_86 : BitVec 32 := 0#32
  let c1_i32_88 : BitVec 32 := 1#32
  let arg18 : BitVec 32 := Scf.iv c0_i32_86 c1_i32_88 k0_t1
  let c128_i32 : BitVec 32 := 128#32
  let v394 : BitVec 32 := Scalar.muli arg18 c128_i32
  let v395 : Index := Scalar.indexCast v394
  ![0, v395.toNat]
def k0_off14 (k0_t1 : Fin k0_t1_loop.trips) : Fin 3 → Nat :=
  let c0_i32_86 : BitVec 32 := 0#32
  let c1_i32_88 : BitVec 32 := 1#32
  let arg18 : BitVec 32 := Scf.iv c0_i32_86 c1_i32_88 k0_t1
  let c2_i32_294 : BitVec 32 := 2#32
  let v361 : BitVec 32 := Scalar.remsi arg18 c2_i32_294
  let v397 : Index := Scalar.indexCast v361
  let c0_325 : Index := 0#32
  let c0_326 : Index := 0#32
  ![v397.toNat, 0, 0]
def k0_dev5 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_138 : BitVec 32 := 1#32
  let v196 : BitVec 32 := Scalar.muli v4 c1_i32_138
  let v197 : BitVec 32 := Scalar.addi c0_i32_139 v196
  v197.toNat
def k0_dev6 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_146 : BitVec 32 := 1#32
  let v206 : BitVec 32 := Scalar.muli v4 c1_i32_146
  let v207 : BitVec 32 := Scalar.addi c0_i32_147 v206
  v207.toNat
@[reducible] def k0_t2_loop : Scf.Loop 32 :=
  let c0_i32_158 : BitVec 32 := 0#32
  let c8_i32_159 : BitVec 32 := 8#32
  let v226 : BitVec 32 := Scalar.addi c0_i32_158 c8_i32_159
  let c1_i32_160 : BitVec 32 := 1#32
  ⟨c0_i32_158, v226, c1_i32_160⟩
def k0_off15 (k0_t2 : Fin k0_t2_loop.trips) : Fin 2 → Nat :=
  let c0_i32_158 : BitVec 32 := 0#32
  let c1_i32_160 : BitVec 32 := 1#32
  let arg18 : BitVec 32 := Scf.iv c0_i32_158 c1_i32_160 k0_t2
  let c2_i32_294 : BitVec 32 := 2#32
  let v361 : BitVec 32 := Scalar.remsi arg18 c2_i32_294
  let c0_i32_297 : BitVec 32 := 0#32
  ![v361.toNat, 0]
def k0_off16 (k0_t2 : Fin k0_t2_loop.trips) : Fin 3 → Nat :=
  let c0_i32_158 : BitVec 32 := 0#32
  let c1_i32_160 : BitVec 32 := 1#32
  let arg18 : BitVec 32 := Scf.iv c0_i32_158 c1_i32_160 k0_t2
  let c2_i32_294 : BitVec 32 := 2#32
  let v361 : BitVec 32 := Scalar.remsi arg18 c2_i32_294
  let c0_i32_298 : BitVec 32 := 0#32
  let c0_i32_299 : BitVec 32 := 0#32
  ![v361.toNat, 0, 0]
def k0_off17 (d0 : Dev nD) (k0_t2 : Fin k0_t2_loop.trips) : Fin 4 → Nat :=
  let c0_i32_296 : BitVec 32 := 0#32
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_129 : BitVec 32 := 1#32
  let v189 : BitVec 32 := Scalar.subi v2 c1_i32_129
  let c4_i32_130 : BitVec 32 := 4#32
  let v190 : BitVec 32 := Scalar.addi v189 c4_i32_130
  let c4_i32_131 : BitVec 32 := 4#32
  let v191 : BitVec 32 := Scalar.remsi v190 c4_i32_131
  let c8_i32_295 : BitVec 32 := 8#32
  let v362 : BitVec 32 := Scalar.muli v191 c8_i32_295
  let c0_i32_158 : BitVec 32 := 0#32
  let c1_i32_160 : BitVec 32 := 1#32
  let arg18 : BitVec 32 := Scf.iv c0_i32_158 c1_i32_160 k0_t2
  let v363 : BitVec 32 := Scalar.addi v362 arg18
  let c0_i32_301 : BitVec 32 := 0#32
  ![0, 0, v363.toNat, 0]
def k0_off18 (k0_t2 : Fin k0_t2_loop.trips) : Fin 2 → Nat :=
  let c0_i32_158 : BitVec 32 := 0#32
  let c1_i32_160 : BitVec 32 := 1#32
  let arg18 : BitVec 32 := Scf.iv c0_i32_158 c1_i32_160 k0_t2
  let c2_i32_294 : BitVec 32 := 2#32
  let v361 : BitVec 32 := Scalar.remsi arg18 c2_i32_294
  let c1_i32_303 : BitVec 32 := 1#32
  ![v361.toNat, 1]
def k0_off19 (k0_t2 : Fin k0_t2_loop.trips) : Fin 2 → Nat :=
  let c0_i32_158 : BitVec 32 := 0#32
  let c1_i32_160 : BitVec 32 := 1#32
  let arg18 : BitVec 32 := Scf.iv c0_i32_158 c1_i32_160 k0_t2
  let c1_i32_310 : BitVec 32 := 1#32
  let v380 : BitVec 32 := Scalar.addi arg18 c1_i32_310
  let c2_i32_311 : BitVec 32 := 2#32
  let v381 : BitVec 32 := Scalar.remsi v380 c2_i32_311
  let c0_i32_313 : BitVec 32 := 0#32
  ![v381.toNat, 0]
def k0_off20 (k0_t2 : Fin k0_t2_loop.trips) : Fin 3 → Nat :=
  let c0_i32_158 : BitVec 32 := 0#32
  let c1_i32_160 : BitVec 32 := 1#32
  let arg18 : BitVec 32 := Scf.iv c0_i32_158 c1_i32_160 k0_t2
  let c1_i32_310 : BitVec 32 := 1#32
  let v380 : BitVec 32 := Scalar.addi arg18 c1_i32_310
  let c2_i32_311 : BitVec 32 := 2#32
  let v381 : BitVec 32 := Scalar.remsi v380 c2_i32_311
  let c0_i32_314 : BitVec 32 := 0#32
  let c0_i32_315 : BitVec 32 := 0#32
  ![v381.toNat, 0, 0]
def k0_off21 (d0 : Dev nD) (k0_t2 : Fin k0_t2_loop.trips) : Fin 4 → Nat :=
  let c0_i32_312 : BitVec 32 := 0#32
  let c0_i32_316 : BitVec 32 := 0#32
  let c0_i32_158 : BitVec 32 := 0#32
  let c1_i32_160 : BitVec 32 := 1#32
  let arg18 : BitVec 32 := Scf.iv c0_i32_158 c1_i32_160 k0_t2
  let c7_i32 : BitVec 32 := 7#32
  let v376 : BitVec 1 := Scalar.cmpi .slt arg18 c7_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_129 : BitVec 32 := 1#32
  let v189 : BitVec 32 := Scalar.subi v2 c1_i32_129
  let c4_i32_130 : BitVec 32 := 4#32
  let v190 : BitVec 32 := Scalar.addi v189 c4_i32_130
  let c4_i32_131 : BitVec 32 := 4#32
  let v191 : BitVec 32 := Scalar.remsi v190 c4_i32_131
  let c8_i32_295 : BitVec 32 := 8#32
  let v362 : BitVec 32 := Scalar.muli v191 c8_i32_295
  let v363 : BitVec 32 := Scalar.addi v362 arg18
  let c1_i32_308 : BitVec 32 := 1#32
  let v377 : BitVec 32 := Scalar.addi v363 c1_i32_308
  let c1_i32_132 : BitVec 32 := 1#32
  let v192 : BitVec 32 := Scalar.subi v2 c1_i32_132
  let c1_i32_133 : BitVec 32 := 1#32
  let v193 : BitVec 32 := Scalar.subi v192 c1_i32_133
  let c4_i32_134 : BitVec 32 := 4#32
  let v194 : BitVec 32 := Scalar.addi v193 c4_i32_134
  let c4_i32_135 : BitVec 32 := 4#32
  let v195 : BitVec 32 := Scalar.remsi v194 c4_i32_135
  let c8_i32_309 : BitVec 32 := 8#32
  let v378 : BitVec 32 := Scalar.muli v195 c8_i32_309
  let v379 : BitVec 32 := Scalar.select v376 v377 v378
  let c0_i32_317 : BitVec 32 := 0#32
  ![0, 0, v379.toNat, 0]
def k0_off22 (k0_t2 : Fin k0_t2_loop.trips) : Fin 2 → Nat :=
  let c0_i32_158 : BitVec 32 := 0#32
  let c1_i32_160 : BitVec 32 := 1#32
  let arg18 : BitVec 32 := Scf.iv c0_i32_158 c1_i32_160 k0_t2
  let c1_i32_310 : BitVec 32 := 1#32
  let v380 : BitVec 32 := Scalar.addi arg18 c1_i32_310
  let c2_i32_311 : BitVec 32 := 2#32
  let v381 : BitVec 32 := Scalar.remsi v380 c2_i32_311
  let c1_i32_319 : BitVec 32 := 1#32
  ![v381.toNat, 1]
def k0_off23 (k0_t2 : Fin k0_t2_loop.trips) : Fin 2 → Nat :=
  let c0_324 : Index := 0#32
  let c0_i32_158 : BitVec 32 := 0#32
  let c1_i32_160 : BitVec 32 := 1#32
  let arg18 : BitVec 32 := Scf.iv c0_i32_158 c1_i32_160 k0_t2
  let c128_i32 : BitVec 32 := 128#32
  let v394 : BitVec 32 := Scalar.muli arg18 c128_i32
  let v395 : Index := Scalar.indexCast v394
  ![0, v395.toNat]
def k0_off24 (k0_t2 : Fin k0_t2_loop.trips) : Fin 3 → Nat :=
  let c0_i32_158 : BitVec 32 := 0#32
  let c1_i32_160 : BitVec 32 := 1#32
  let arg18 : BitVec 32 := Scf.iv c0_i32_158 c1_i32_160 k0_t2
  let c2_i32_294 : BitVec 32 := 2#32
  let v361 : BitVec 32 := Scalar.remsi arg18 c2_i32_294
  let v397 : Index := Scalar.indexCast v361
  let c0_325 : Index := 0#32
  let c0_326 : Index := 0#32
  ![v397.toNat, 0, 0]
def k0_dev7 (d0 : Dev nD) : Nat :=
  let c0_i32_211 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_210 : BitVec 32 := 1#32
  let v271 : BitVec 32 := Scalar.muli v4 c1_i32_210
  let v272 : BitVec 32 := Scalar.addi c0_i32_211 v271
  v272.toNat
def k0_dev8 (d0 : Dev nD) : Nat :=
  let c0_i32_219 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_218 : BitVec 32 := 1#32
  let v281 : BitVec 32 := Scalar.muli v4 c1_i32_218
  let v282 : BitVec 32 := Scalar.addi c0_i32_219 v281
  v282.toNat
@[reducible] def k0_t3_loop : Scf.Loop 32 :=
  let c0_i32_230 : BitVec 32 := 0#32
  let c8_i32_231 : BitVec 32 := 8#32
  let v301 : BitVec 32 := Scalar.addi c0_i32_230 c8_i32_231
  let c1_i32_232 : BitVec 32 := 1#32
  ⟨c0_i32_230, v301, c1_i32_232⟩
def k0_off25 (k0_t3 : Fin k0_t3_loop.trips) : Fin 2 → Nat :=
  let c0_i32_230 : BitVec 32 := 0#32
  let c1_i32_232 : BitVec 32 := 1#32
  let arg18 : BitVec 32 := Scf.iv c0_i32_230 c1_i32_232 k0_t3
  let c2_i32_294 : BitVec 32 := 2#32
  let v361 : BitVec 32 := Scalar.remsi arg18 c2_i32_294
  let c0_i32_297 : BitVec 32 := 0#32
  ![v361.toNat, 0]
def k0_off26 (k0_t3 : Fin k0_t3_loop.trips) : Fin 3 → Nat :=
  let c0_i32_230 : BitVec 32 := 0#32
  let c1_i32_232 : BitVec 32 := 1#32
  let arg18 : BitVec 32 := Scf.iv c0_i32_230 c1_i32_232 k0_t3
  let c2_i32_294 : BitVec 32 := 2#32
  let v361 : BitVec 32 := Scalar.remsi arg18 c2_i32_294
  let c0_i32_298 : BitVec 32 := 0#32
  let c0_i32_299 : BitVec 32 := 0#32
  ![v361.toNat, 0, 0]
def k0_off27 (d0 : Dev nD) (k0_t3 : Fin k0_t3_loop.trips) : Fin 4 → Nat :=
  let c0_i32_296 : BitVec 32 := 0#32
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_201 : BitVec 32 := 2#32
  let v264 : BitVec 32 := Scalar.subi v2 c2_i32_201
  let c4_i32_202 : BitVec 32 := 4#32
  let v265 : BitVec 32 := Scalar.addi v264 c4_i32_202
  let c4_i32_203 : BitVec 32 := 4#32
  let v266 : BitVec 32 := Scalar.remsi v265 c4_i32_203
  let c8_i32_295 : BitVec 32 := 8#32
  let v362 : BitVec 32 := Scalar.muli v266 c8_i32_295
  let c0_i32_230 : BitVec 32 := 0#32
  let c1_i32_232 : BitVec 32 := 1#32
  let arg18 : BitVec 32 := Scf.iv c0_i32_230 c1_i32_232 k0_t3
  let v363 : BitVec 32 := Scalar.addi v362 arg18
  let c0_i32_301 : BitVec 32 := 0#32
  ![0, 0, v363.toNat, 0]
def k0_off28 (k0_t3 : Fin k0_t3_loop.trips) : Fin 2 → Nat :=
  let c0_i32_230 : BitVec 32 := 0#32
  let c1_i32_232 : BitVec 32 := 1#32
  let arg18 : BitVec 32 := Scf.iv c0_i32_230 c1_i32_232 k0_t3
  let c2_i32_294 : BitVec 32 := 2#32
  let v361 : BitVec 32 := Scalar.remsi arg18 c2_i32_294
  let c1_i32_303 : BitVec 32 := 1#32
  ![v361.toNat, 1]
def k0_off29 (k0_t3 : Fin k0_t3_loop.trips) : Fin 2 → Nat :=
  let c0_i32_230 : BitVec 32 := 0#32
  let c1_i32_232 : BitVec 32 := 1#32
  let arg18 : BitVec 32 := Scf.iv c0_i32_230 c1_i32_232 k0_t3
  let c1_i32_310 : BitVec 32 := 1#32
  let v380 : BitVec 32 := Scalar.addi arg18 c1_i32_310
  let c2_i32_311 : BitVec 32 := 2#32
  let v381 : BitVec 32 := Scalar.remsi v380 c2_i32_311
  let c0_i32_313 : BitVec 32 := 0#32
  ![v381.toNat, 0]
def k0_off30 (k0_t3 : Fin k0_t3_loop.trips) : Fin 3 → Nat :=
  let c0_i32_230 : BitVec 32 := 0#32
  let c1_i32_232 : BitVec 32 := 1#32
  let arg18 : BitVec 32 := Scf.iv c0_i32_230 c1_i32_232 k0_t3
  let c1_i32_310 : BitVec 32 := 1#32
  let v380 : BitVec 32 := Scalar.addi arg18 c1_i32_310
  let c2_i32_311 : BitVec 32 := 2#32
  let v381 : BitVec 32 := Scalar.remsi v380 c2_i32_311
  let c0_i32_314 : BitVec 32 := 0#32
  let c0_i32_315 : BitVec 32 := 0#32
  ![v381.toNat, 0, 0]
def k0_off31 (d0 : Dev nD) (k0_t3 : Fin k0_t3_loop.trips) : Fin 4 → Nat :=
  let c0_i32_312 : BitVec 32 := 0#32
  let c0_i32_316 : BitVec 32 := 0#32
  let c0_i32_230 : BitVec 32 := 0#32
  let c1_i32_232 : BitVec 32 := 1#32
  let arg18 : BitVec 32 := Scf.iv c0_i32_230 c1_i32_232 k0_t3
  let c7_i32 : BitVec 32 := 7#32
  let v376 : BitVec 1 := Scalar.cmpi .slt arg18 c7_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_201 : BitVec 32 := 2#32
  let v264 : BitVec 32 := Scalar.subi v2 c2_i32_201
  let c4_i32_202 : BitVec 32 := 4#32
  let v265 : BitVec 32 := Scalar.addi v264 c4_i32_202
  let c4_i32_203 : BitVec 32 := 4#32
  let v266 : BitVec 32 := Scalar.remsi v265 c4_i32_203
  let c8_i32_295 : BitVec 32 := 8#32
  let v362 : BitVec 32 := Scalar.muli v266 c8_i32_295
  let v363 : BitVec 32 := Scalar.addi v362 arg18
  let c1_i32_308 : BitVec 32 := 1#32
  let v377 : BitVec 32 := Scalar.addi v363 c1_i32_308
  let c2_i32_204 : BitVec 32 := 2#32
  let v267 : BitVec 32 := Scalar.subi v2 c2_i32_204
  let c1_i32_205 : BitVec 32 := 1#32
  let v268 : BitVec 32 := Scalar.subi v267 c1_i32_205
  let c4_i32_206 : BitVec 32 := 4#32
  let v269 : BitVec 32 := Scalar.addi v268 c4_i32_206
  let c4_i32_207 : BitVec 32 := 4#32
  let v270 : BitVec 32 := Scalar.remsi v269 c4_i32_207
  let c8_i32_309 : BitVec 32 := 8#32
  let v378 : BitVec 32 := Scalar.muli v270 c8_i32_309
  let v379 : BitVec 32 := Scalar.select v376 v377 v378
  let c0_i32_317 : BitVec 32 := 0#32
  ![0, 0, v379.toNat, 0]
def k0_off32 (k0_t3 : Fin k0_t3_loop.trips) : Fin 2 → Nat :=
  let c0_i32_230 : BitVec 32 := 0#32
  let c1_i32_232 : BitVec 32 := 1#32
  let arg18 : BitVec 32 := Scf.iv c0_i32_230 c1_i32_232 k0_t3
  let c1_i32_310 : BitVec 32 := 1#32
  let v380 : BitVec 32 := Scalar.addi arg18 c1_i32_310
  let c2_i32_311 : BitVec 32 := 2#32
  let v381 : BitVec 32 := Scalar.remsi v380 c2_i32_311
  let c1_i32_319 : BitVec 32 := 1#32
  ![v381.toNat, 1]
def k0_off33 (k0_t3 : Fin k0_t3_loop.trips) : Fin 2 → Nat :=
  let c0_324 : Index := 0#32
  let c0_i32_230 : BitVec 32 := 0#32
  let c1_i32_232 : BitVec 32 := 1#32
  let arg18 : BitVec 32 := Scf.iv c0_i32_230 c1_i32_232 k0_t3
  let c128_i32 : BitVec 32 := 128#32
  let v394 : BitVec 32 := Scalar.muli arg18 c128_i32
  let v395 : Index := Scalar.indexCast v394
  ![0, v395.toNat]
def k0_off34 (k0_t3 : Fin k0_t3_loop.trips) : Fin 3 → Nat :=
  let c0_i32_230 : BitVec 32 := 0#32
  let c1_i32_232 : BitVec 32 := 1#32
  let arg18 : BitVec 32 := Scf.iv c0_i32_230 c1_i32_232 k0_t3
  let c2_i32_294 : BitVec 32 := 2#32
  let v361 : BitVec 32 := Scalar.remsi arg18 c2_i32_294
  let v397 : Index := Scalar.indexCast v361
  let c0_325 : Index := 0#32
  let c0_326 : Index := 0#32
  ![v397.toNat, 0, 0]
def k0_off35 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_273 : BitVec 32 := 1#32
  let v339 : BitVec 32 := Scalar.addi v2 c1_i32_273
  let c4_i32_274 : BitVec 32 := 4#32
  let v340 : BitVec 32 := Scalar.remsi v339 c4_i32_274
  let v341 : Index := Scalar.indexCast v340
  let c0_275 : Index := 0#32
  let c0_276 : Index := 0#32
  ![v341.toNat, 0, 0]
@[reducible] def k0_t4_loop : Scf.Loop 32 :=
  let c0_i32_281 : BitVec 32 := 0#32
  let c8_i32_282 : BitVec 32 := 8#32
  let v351 : BitVec 32 := Scalar.addi c0_i32_281 c8_i32_282
  let c1_i32_283 : BitVec 32 := 1#32
  ⟨c0_i32_281, v351, c1_i32_283⟩
def k0_off36 (k0_t4 : Fin k0_t4_loop.trips) : Fin 2 → Nat :=
  let c0_i32_281 : BitVec 32 := 0#32
  let c1_i32_283 : BitVec 32 := 1#32
  let arg18 : BitVec 32 := Scf.iv c0_i32_281 c1_i32_283 k0_t4
  let c2_i32_294 : BitVec 32 := 2#32
  let v361 : BitVec 32 := Scalar.remsi arg18 c2_i32_294
  let c0_i32_297 : BitVec 32 := 0#32
  ![v361.toNat, 0]
def k0_off37 (k0_t4 : Fin k0_t4_loop.trips) : Fin 3 → Nat :=
  let c0_i32_281 : BitVec 32 := 0#32
  let c1_i32_283 : BitVec 32 := 1#32
  let arg18 : BitVec 32 := Scf.iv c0_i32_281 c1_i32_283 k0_t4
  let c2_i32_294 : BitVec 32 := 2#32
  let v361 : BitVec 32 := Scalar.remsi arg18 c2_i32_294
  let c0_i32_298 : BitVec 32 := 0#32
  let c0_i32_299 : BitVec 32 := 0#32
  ![v361.toNat, 0, 0]
def k0_off38 (d0 : Dev nD) (k0_t4 : Fin k0_t4_loop.trips) : Fin 4 → Nat :=
  let c0_i32_296 : BitVec 32 := 0#32
  let c0_i32_300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_273 : BitVec 32 := 1#32
  let v339 : BitVec 32 := Scalar.addi v2 c1_i32_273
  let c4_i32_274 : BitVec 32 := 4#32
  let v340 : BitVec 32 := Scalar.remsi v339 c4_i32_274
  let c8_i32_295 : BitVec 32 := 8#32
  let v362 : BitVec 32 := Scalar.muli v340 c8_i32_295
  let c0_i32_281 : BitVec 32 := 0#32
  let c1_i32_283 : BitVec 32 := 1#32
  let arg18 : BitVec 32 := Scf.iv c0_i32_281 c1_i32_283 k0_t4
  let v363 : BitVec 32 := Scalar.addi v362 arg18
  let c0_i32_301 : BitVec 32 := 0#32
  ![0, 0, v363.toNat, 0]
def k0_off39 (k0_t4 : Fin k0_t4_loop.trips) : Fin 2 → Nat :=
  let c0_i32_281 : BitVec 32 := 0#32
  let c1_i32_283 : BitVec 32 := 1#32
  let arg18 : BitVec 32 := Scf.iv c0_i32_281 c1_i32_283 k0_t4
  let c2_i32_294 : BitVec 32 := 2#32
  let v361 : BitVec 32 := Scalar.remsi arg18 c2_i32_294
  let c1_i32_303 : BitVec 32 := 1#32
  ![v361.toNat, 1]
def k0_cond1 (k0_t4 : Fin k0_t4_loop.trips) : BitVec 1 :=
  let c0_i32_281 : BitVec 32 := 0#32
  let c1_i32_283 : BitVec 32 := 1#32
  let arg18 : BitVec 32 := Scf.iv c0_i32_281 c1_i32_283 k0_t4
  let c7_i32_310 : BitVec 32 := 7#32
  let v380 : BitVec 1 := Scalar.cmpi .slt arg18 c7_i32_310
  let v381 : BitVec 32 := Scalar.extui v380
  let c0_i32_311 : BitVec 32 := 0#32
  let v382 : BitVec 1 := Scalar.cmpi .ne v381 c0_i32_311
  v382

def k0_off40 (k0_t4 : Fin k0_t4_loop.trips) : Fin 2 → Nat :=
  let c0_i32_281 : BitVec 32 := 0#32
  let c1_i32_283 : BitVec 32 := 1#32
  let arg18 : BitVec 32 := Scf.iv c0_i32_281 c1_i32_283 k0_t4
  let c1_i32_325 : BitVec 32 := 1#32
  let v412 : BitVec 32 := Scalar.addi arg18 c1_i32_325
  let c2_i32_326 : BitVec 32 := 2#32
  let v413 : BitVec 32 := Scalar.remsi v412 c2_i32_326
  let c0_i32_328 : BitVec 32 := 0#32
  ![v413.toNat, 0]
def k0_off41 (k0_t4 : Fin k0_t4_loop.trips) : Fin 3 → Nat :=
  let c0_i32_281 : BitVec 32 := 0#32
  let c1_i32_283 : BitVec 32 := 1#32
  let arg18 : BitVec 32 := Scf.iv c0_i32_281 c1_i32_283 k0_t4
  let c1_i32_325 : BitVec 32 := 1#32
  let v412 : BitVec 32 := Scalar.addi arg18 c1_i32_325
  let c2_i32_326 : BitVec 32 := 2#32
  let v413 : BitVec 32 := Scalar.remsi v412 c2_i32_326
  let c0_i32_329 : BitVec 32 := 0#32
  let c0_i32_330 : BitVec 32 := 0#32
  ![v413.toNat, 0, 0]
def k0_off42 (d0 : Dev nD) (k0_t4 : Fin k0_t4_loop.trips) : Fin 4 → Nat :=
  let c0_i32_327 : BitVec 32 := 0#32
  let c0_i32_331 : BitVec 32 := 0#32
  let c0_i32_281 : BitVec 32 := 0#32
  let c1_i32_283 : BitVec 32 := 1#32
  let arg18 : BitVec 32 := Scf.iv c0_i32_281 c1_i32_283 k0_t4
  let c7_i32 : BitVec 32 := 7#32
  let v376 : BitVec 1 := Scalar.cmpi .slt arg18 c7_i32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_273 : BitVec 32 := 1#32
  let v339 : BitVec 32 := Scalar.addi v2 c1_i32_273
  let c4_i32_274 : BitVec 32 := 4#32
  let v340 : BitVec 32 := Scalar.remsi v339 c4_i32_274
  let c8_i32_295 : BitVec 32 := 8#32
  let v362 : BitVec 32 := Scalar.muli v340 c8_i32_295
  let v363 : BitVec 32 := Scalar.addi v362 arg18
  let c1_i32_308 : BitVec 32 := 1#32
  let v377 : BitVec 32 := Scalar.addi v363 c1_i32_308
  let c8_i32_309 : BitVec 32 := 8#32
  let v378 : BitVec 32 := Scalar.muli v340 c8_i32_309
  let v379 : BitVec 32 := Scalar.select v376 v377 v378
  let c0_i32_332 : BitVec 32 := 0#32
  ![0, 0, v379.toNat, 0]
def k0_off43 (k0_t4 : Fin k0_t4_loop.trips) : Fin 2 → Nat :=
  let c0_i32_281 : BitVec 32 := 0#32
  let c1_i32_283 : BitVec 32 := 1#32
  let arg18 : BitVec 32 := Scf.iv c0_i32_281 c1_i32_283 k0_t4
  let c1_i32_325 : BitVec 32 := 1#32
  let v412 : BitVec 32 := Scalar.addi arg18 c1_i32_325
  let c2_i32_326 : BitVec 32 := 2#32
  let v413 : BitVec 32 := Scalar.remsi v412 c2_i32_326
  let c1_i32_334 : BitVec 32 := 1#32
  ![v413.toNat, 1]
def k0_off44 (k0_t4 : Fin k0_t4_loop.trips) : Fin 2 → Nat :=
  let c0_312 : Index := 0#32
  let c0_i32_281 : BitVec 32 := 0#32
  let c1_i32_283 : BitVec 32 := 1#32
  let arg18 : BitVec 32 := Scf.iv c0_i32_281 c1_i32_283 k0_t4
  let c128_i32 : BitVec 32 := 128#32
  let v383 : BitVec 32 := Scalar.muli arg18 c128_i32
  let v384 : Index := Scalar.indexCast v383
  ![0, v384.toNat]
def k0_off45 (k0_t4 : Fin k0_t4_loop.trips) : Fin 3 → Nat :=
  let c0_i32_281 : BitVec 32 := 0#32
  let c1_i32_283 : BitVec 32 := 1#32
  let arg18 : BitVec 32 := Scf.iv c0_i32_281 c1_i32_283 k0_t4
  let c2_i32_294 : BitVec 32 := 2#32
  let v361 : BitVec 32 := Scalar.remsi arg18 c2_i32_294
  let v386 : Index := Scalar.indexCast v361
  let c0_313 : Index := 0#32
  let c0_314 : Index := 0#32
  ![v386.toNat, 0, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x4096x1024 : Shape := ⟨3, ![1, 4096, 1024]⟩
abbrev S1024x4096 : Shape := ⟨2, ![1024, 4096]⟩
abbrev S1x1024x32x128 : Shape := ⟨4, ![1, 1024, 32, 128]⟩
abbrev S4096x1024 : Shape := ⟨2, ![4096, 1024]⟩
abbrev S1x4096x4096 : Shape := ⟨3, ![1, 4096, 4096]⟩
abbrev S1x4096x32x128 : Shape := ⟨4, ![1, 4096, 32, 128]⟩
abbrev S4096 : Shape := ⟨1, ![4096]⟩
abbrev S_ : Shape := ⟨0, ![]⟩
abbrev S4096x1 : Shape := ⟨2, ![4096, 1]⟩
abbrev S1024 : Shape := ⟨1, ![1024]⟩
abbrev S1x1024 : Shape := ⟨2, ![1, 1024]⟩
abbrev S1x32x4096x1024 : Shape := ⟨4, ![1, 32, 4096, 1024]⟩
abbrev S1x1x4096x1024 : Shape := ⟨4, ![1, 1, 4096, 1024]⟩
abbrev S1x32x4096 : Shape := ⟨3, ![1, 32, 4096]⟩
abbrev S1x32x4096x1 : Shape := ⟨4, ![1, 32, 4096, 1]⟩
abbrev S1x1x4096x1 : Shape := ⟨4, ![1, 1, 4096, 1]⟩
abbrev S1x32x128x4096 : Shape := ⟨4, ![1, 32, 128, 4096]⟩

abbrev nBuf : Space → Nat
  | .hbm => 124
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x4096, .f32⟩
  | .hbm, ⟨2, _⟩ => ⟨S1x1024x32x128, .f32⟩
  | .hbm, ⟨3, _⟩ => ⟨S1x1024x32x128, .f32⟩
  | .hbm, ⟨4, _⟩ => ⟨S4096x1024, .f32⟩
  | .hbm, ⟨5, _⟩ => ⟨S1x4096x4096, .f32⟩
  | .hbm, ⟨6, _⟩ => ⟨S1x4096x32x128, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S4096x1024, .i32⟩
  | .hbm, ⟨48, _⟩ => ⟨S4096x1024, .i32⟩
  | .hbm, ⟨49, _⟩ => ⟨S4096x1024, .i1⟩
  | .hbm, ⟨50, _⟩ => ⟨S_, .i32⟩
  | .hbm, ⟨51, _⟩ => ⟨S1x1024, .i32⟩
  | .hbm, ⟨52, _⟩ => ⟨S1x1024, .i1⟩
  | .hbm, ⟨53, _⟩ => ⟨S4096x1024, .i1⟩
  | .hbm, ⟨54, _⟩ => ⟨S4096x1024, .i1⟩
  | .hbm, ⟨55, _⟩ => ⟨S4096x1024, .i32⟩
  | .hbm, ⟨56, _⟩ => ⟨S4096x1024, .i32⟩
  | .hbm, ⟨57, _⟩ => ⟨S4096x1024, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S4096x1024, .i32⟩
  | .hbm, ⟨65, _⟩ => ⟨S4096x1024, .i32⟩
  | .hbm, ⟨66, _⟩ => ⟨S_, .i32⟩
  | .hbm, ⟨67, _⟩ => ⟨S4096x1024, .i32⟩
  | .hbm, ⟨68, _⟩ => ⟨S4096x1024, .i1⟩
  | .hbm, ⟨69, _⟩ => ⟨S_, .i32⟩
  | .hbm, ⟨70, _⟩ => ⟨S4096x1024, .i32⟩
  | .hbm, ⟨71, _⟩ => ⟨S4096x1024, .i1⟩
  | .hbm, ⟨72, _⟩ => ⟨S_, .i32⟩
  | .hbm, ⟨73, _⟩ => ⟨S_, .i1⟩
  | .hbm, ⟨74, _⟩ => ⟨S4096x1024, .i1⟩
  | .hbm, ⟨75, _⟩ => ⟨S4096x1024, .i1⟩
  | .hbm, ⟨76, _⟩ => ⟨S4096x1024, .i1⟩
  | .hbm, ⟨77, _⟩ => ⟨S4096x1024, .i32⟩
  | .hbm, ⟨78, _⟩ => ⟨S4096x1024, .i32⟩
  | .hbm, ⟨79, _⟩ => ⟨S4096x1024, .i32⟩
  | .hbm, ⟨80, _⟩ => ⟨S_, .i32⟩
  | .hbm, ⟨81, _⟩ => ⟨S4096x1024, .i32⟩
  | .hbm, ⟨82, _⟩ => ⟨S4096x1024, .i1⟩
  | .hbm, ⟨83, _⟩ => ⟨S4096x1024, .i1⟩
  | .hbm, ⟨84, _⟩ => ⟨S1x32x4096x1024, .f32⟩
  | .hbm, ⟨85, _⟩ => ⟨S_, .f32⟩
  | .hbm, ⟨86, _⟩ => ⟨S1x32x4096x1024, .f32⟩
  | .hbm, ⟨87, _⟩ => ⟨S1x32x4096x1024, .f32⟩
  | .hbm, ⟨88, _⟩ => ⟨S1x1x4096x1024, .i1⟩
  | .hbm, ⟨89, _⟩ => ⟨S_, .f32⟩
  | .hbm, ⟨90, _⟩ => ⟨S_, .f32⟩
  | .hbm, ⟨91, _⟩ => ⟨S1x32x4096x1024, .i1⟩
  | .hbm, ⟨92, _⟩ => ⟨S1x32x4096x1024, .f32⟩
  | .hbm, ⟨93, _⟩ => ⟨S1x32x4096x1024, .f32⟩
  | .hbm, ⟨94, _⟩ => ⟨S_, .f32⟩
  | .hbm, ⟨95, _⟩ => ⟨S1x32x4096, .f32⟩
  | .hbm, ⟨96, _⟩ => ⟨S1x32x4096x1, .f32⟩
  | .hbm, ⟨97, _⟩ => ⟨S1x32x4096x1024, .f32⟩
  | .hbm, ⟨98, _⟩ => ⟨S1x32x4096x1024, .f32⟩
  | .hbm, ⟨99, _⟩ => ⟨S1x32x4096x1024, .f32⟩
  | .hbm, ⟨100, _⟩ => ⟨S_, .i1⟩
  | .hbm, ⟨101, _⟩ => ⟨S4096, .i1⟩
  | .hbm, ⟨102, _⟩ => ⟨S1x1x4096x1, .i1⟩
  | .hbm, ⟨103, _⟩ => ⟨S_, .f32⟩
  | .hbm, ⟨104, _⟩ => ⟨S1x32x4096, .f32⟩
  | .hbm, ⟨105, _⟩ => ⟨S1x32x4096x1, .f32⟩
  | .hbm, ⟨106, _⟩ => ⟨S_, .f32⟩
  | .hbm, ⟨107, _⟩ => ⟨S_, .f32⟩
  | .hbm, ⟨108, _⟩ => ⟨S1x32x4096x1, .i1⟩
  | .hbm, ⟨109, _⟩ => ⟨S1x32x4096x1, .f32⟩
  | .hbm, ⟨110, _⟩ => ⟨S1x32x4096x1, .f32⟩
  | .hbm, ⟨111, _⟩ => ⟨S1x32x4096x1024, .f32⟩
  | .hbm, ⟨112, _⟩ => ⟨S1x32x4096x1024, .f32⟩
  | .hbm, ⟨113, _⟩ => ⟨S1x1x4096x1, .i1⟩
  | .hbm, ⟨114, _⟩ => ⟨S_, .f32⟩
  | .hbm, ⟨115, _⟩ => ⟨S_, .f32⟩
  | .hbm, ⟨116, _⟩ => ⟨S1x32x4096x1024, .i1⟩
  | .hbm, ⟨117, _⟩ => ⟨S1x32x4096x1024, .f32⟩
  | .hbm, ⟨118, _⟩ => ⟨S1x32x4096x1024, .f32⟩
  | .hbm, ⟨119, _⟩ => ⟨S1x32x128x4096, .f32⟩
  | .hbm, ⟨120, _⟩ => ⟨S1x4096x32x128, .f32⟩
  | .hbm, ⟨121, _⟩ => ⟨S1x4096x4096, .f32⟩
  | .hbm, ⟨122, _⟩ => ⟨S1x4096x1024, .f32⟩
  | .hbm, ⟨123, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩

abbrev nD : Nat := 1
abbrev τ : Topo := Topo.v7x

variable {F : FTy → Type} [FloatOps F]
-- ==== Proof.KernelIdealBase.lean ====
/-
The ring all-gather attention kernel, part 1: the resource algebra, the ring, the memrefs and the slots they are
held by, the semaphore cells, and the contents that the copies hand over.

The protocol. Device `c` sends to `nxt c` and receives from `prv c`. Slot `j` of the two gathered weight buffers
always holds device `j`'s block. At its barrier `c` waits for both neighbours; the signal of `nxt c` hands `c` the
three slots of `nxt c` that `c` is going to fill. At hop `h` device `c` copies slot `c - h` of each buffer to the same
slot of `nxt c`; the landing hands `nxt c` that slot, filled. The copy's source is lent at half share, since the
device computes with the same slot meanwhile; the send semaphore hands the half back. The K and V heads are fetched
by local copies into two alternating staging slots.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Tactic

@[expose] public section

noncomputable section

namespace Cert.KernelIdeal.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra: the pipeline's copy, the ring's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
/-- The device whose block `c` holds at hop `h`. -/
def src (c : Dev nD) (h : Fin 4) : Fin 4 := c - h

theorem prv_nxt (c : Dev nD) : prv (nxt c) = c := by revert c; decide
theorem nxt_prv (c : Dev nD) : nxt (prv c) = c := by revert c; decide
theorem nxt_ne_prv (c : Dev nD) : nxt c ≠ prv c := by revert c; decide

def ring : Dev nD ≃ Dev nD := ⟨nxt, prv, prv_nxt, nxt_prv⟩

/-- The first barrier signal goes to `prv c`, the second to `nxt c`, every copy to `nxt c`. -/
theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = nxt c := by revert c; decide
theorem dev4_eq (c : Dev nD) : (⟨k0_dev4 c, k0_dev4_lt c⟩ : Dev nD) = nxt c := by revert c; decide
theorem dev5_eq (c : Dev nD) : (⟨k0_dev5 c, k0_dev5_lt c⟩ : Dev nD) = nxt c := by revert c; decide
theorem dev6_eq (c : Dev nD) : (⟨k0_dev6 c, k0_dev6_lt c⟩ : Dev nD) = nxt c := by revert c; decide
theorem dev7_eq (c : Dev nD) : (⟨k0_dev7 c, k0_dev7_lt c⟩ : Dev nD) = nxt c := by revert c; decide
theorem dev8_eq (c : Dev nD) : (⟨k0_dev8 c, k0_dev8_lt c⟩ : Dev nD) = nxt c := by revert c; decide

/-! ## The memrefs -/

abbrev xM : Memref sig .tc .vmem S1x1024x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1024x1024 .f32 := Memref.whole cc0_stg3_0
abbrev qM : Memref sig .tc .vmem S1024x1024 .bf16 := Memref.whole cc0_scratch2
abbrev ctxM : Memref sig .tc .vmem S1024x1024 .bf16 := Memref.whole cc0_scratch3
abbrev biasM : Memref sig .tc .vmem S1024x1024 .f32 := Memref.whole cc0_scratch4

/-- The gathered weights: `false` the query projections, `true` the output projections. -/
abbrev chM : Bool → Memref sig .tc .vmem S4x1024x1024 .bf16
  | false => Memref.whole cc0_scratch0
  | true => Memref.whole cc0_scratch1
/-- The keys (`false`) and the values (`true`), -/
abbrev arrM : Bool → Memref sig .tc .hbm S1x1024x32x128 .f32
  | false => Memref.whole main_arg2
  | true => Memref.whole main_arg3
/-- and the two staging slots of each. -/
abbrev stM : Bool → Memref sig .tc .vmem S2x1024x128 .f32
  | false => Memref.whole cc0_scratch5
  | true => Memref.whole cc0_scratch6

/-! ## Slots -/

theorem slot_inb (j : Fin 4) : ∀ a, (![j.val, 0, 0] : Fin 3 → Nat) a + S1x1024x1024.size a ≤ S4x1024x1024.size a := by
  revert j; decide
theorem stage_inb (s : Fin 2) : ∀ a, (![s.val, 0, 0] : Fin 3 → Nat) a + S1x1024x128.size a ≤ S2x1024x128.size a := by
  revert s; decide
theorem win_inb (h : Fin 32) : ∀ a, (![0, 0, h.val, 0] : Fin 4 → Nat) a + S1x1024x1x128.size a ≤ S1x1024x32x128.size a := by
  revert h; decide

abbrev slotRect (j : Fin 4) : Rect S4x1024x1024 := Rect.unit (s := S4x1024x1024) ![j.val, 0, 0] S1x1024x1024.size (slot_inb j)
abbrev stageRect (s : Fin 2) : Rect S2x1024x128 := Rect.unit (s := S2x1024x128) ![s.val, 0, 0] S1x1024x128.size (stage_inb s)
abbrev winRect (h : Fin 32) : Rect S1x1024x32x128 := Rect.unit (s := S1x1024x32x128) ![0, 0, h.val, 0] S1x1024x1x128.size (win_inb h)

/-- Slot `j` of a gathered weight buffer, -/
abbrev slot (t : Bool) (j : Fin 4) : Memref sig .tc .vmem S1024x1024 .bf16 :=
  ((chM t).slice (slotRect j) (fun _ => rfl)).squeeze S1024x1024 squeezes_S1x1024x1024_S1024x1024
/-- slot `s` of a staging buffer, -/
abbrev stage (t : Bool) (s : Fin 2) : Memref sig .tc .vmem S1024x128 .f32 :=
  ((stM t).slice (stageRect s) (fun _ => rfl)).squeeze S1024x128 squeezes_S1x1024x128_S1024x128
/-- head `h` of the keys or the values. -/
abbrev win (t : Bool) (h : Fin 32) : Memref sig .tc .hbm S1024x128 .f32 :=
  ((arrM t).slice (winRect h) (fun _ => rfl)).squeeze S1024x128 squeezes_S1x1024x1x128_S1024x128

theorem slot_set (t : Bool) (j : Fin 4) : (slot t j).view.set = ((chM t).access (slotRect j)).set := View.set_reshape _ _
theorem stage_set (t : Bool) (s : Fin 2) : (stage t s).view.set = ((stM t).access (stageRect s)).set := View.set_reshape _ _

/-! ## Contents -/

/-- The block of the query projection that device `d` staged, -/
def wqs (d : Dev nD) : (cc0_stg1_0 : Ref sig .tc).ty.Contents (Elt F) :=
  (win0_1.blk (0 : Fin 1)).view.read (Elt F) ((s₀ m ρ).mem ((d : Thread nD τ).loc main_arg1))
/-- of the output projection, -/
def wos (d : Dev nD) : (cc0_stg2_0 : Ref sig .tc).ty.Contents (Elt F) :=
  (win0_2.blk (0 : Fin 1)).view.read (Elt F) ((s₀ m ρ).mem ((d : Thread nD τ).loc main_arg4))
/-- and its rows of the input. -/
def xs (d : Dev nD) : (cc0_stg0_0 : Ref sig .tc).ty.Contents (Elt F) :=
  (win0_0.blk (0 : Fin 1)).view.read (Elt F) ((s₀ m ρ).mem ((d : Thread nD τ).loc main_arg0))

/-- What a device stores of its own block into its slot. -/
def pay : Bool → Dev nD → Vec F S1x1024x1024 .bf16
  | false, d => k0_pay5 (wqs m ρ d)
  | true, d => k0_pay6 (wos m ρ d)

/-- Slot `j` filled with device `j`'s block (elsewhere: anything, the contents at launch). -/
def chb (t : Bool) (j : Fin 4) : ((chM t).access (slotRect j)).ty.Contents (Elt F) :=
  ((chM t).access (slotRect j)).write (Elt F) (m ((chM t).view.loc ((0 : Dev nD) : Thread nD τ))) (pay m ρ t j) Finset.univ

/-- Device `c`'s keys or values, -/
abbrev kvA (t : Bool) (c : Dev nD) : Buf (Elt F) ((arrM t).view.loc (c : Thread nD τ)) := m ((arrM t).view.loc (c : Thread nD τ))
/-- head `h` of them, -/
def head (t : Bool) (c : Dev nD) (h : Fin 32) : S1024x128.Idx → Elt F .f32 := (win t h).view.read (Elt F) (kvA m t c)
/-- staged in slot `s`, -/
def stb (t : Bool) (c : Dev nD) (s : Fin 2) (h : Fin 32) : (stage t s).view.ty.Contents (Elt F) :=
  (stage t s).view.write (Elt F) (m ((stM t).view.loc ((0 : Dev nD) : Thread nD τ))) (head m t c h) Finset.univ
/-- and as the load of the slot reads it. -/
def hvec (t : Bool) (c : Dev nD) (h : Fin 32) : Vec F S1x1024x128 .f32 :=
  fun x => head m t c h ((Shape.reshapeEquiv (squeezes_S1x1024x128_S1024x128).numel_eq).symm x)

theorem read_slot (t : Bool) (j : Fin 4) :
    (chM t).view.readAt (Elt F) (slotRect j).toLoadRect (chb m ρ t j) = pay m ρ t j :=
  View.read_write_univ (v := (chM t).access (slotRect j)) _ _

theorem read_stage (t : Bool) (c : Dev nD) (s : Fin 2) (h : Fin 32) :
    (stM t).view.readAt (Elt F) (stageRect s).toLoadRect (stb m t c s h) = hvec m t c h := by
  funext x
  have h1 := congrFun (View.read_write_univ (v := (stage t s).view) (m ((stM t).view.loc ((0 : Dev nD) : Thread nD τ))) (head m t c h))
    ((Shape.reshapeEquiv (squeezes_S1x1024x128_S1024x128).numel_eq).symm x)
  refine Eq.trans ?_ h1
  show ((stM t).view.slice (stageRect s)).read (Elt F) (stb m t c s h) x
    = ((stM t).view.slice (stageRect s)).read (Elt F) (stb m t c s h) (Shape.reshapeEquiv _ ((Shape.reshapeEquiv (squeezes_S1x1024x128_S1024x128).numel_eq).symm x))
  exact congrArg _ (Equiv.apply_symm_apply _ _).symm

/-! ## Semaphores -/

theorem sem3_inb (h : Fin 3) : ∀ a, (![h.val] : Fin 1 → Nat) a + S1.size a ≤ S3.size a := by revert h; decide
theorem sem22_inb (s : Fin 2) (u : Fin 2) : ∀ a, (![s.val, u.val] : Fin 2 → Nat) a + S1x1.size a ≤ S2x2.size a := by revert s u; decide

abbrev barS : Sem sig := (SemArray.scalar (sig.barrier 0 rfl) : Sems sig S_).sem
abbrev sendArr : Bool → DmaSems sig S3
  | false => cc0_scratch7
  | true => cc0_scratch9
abbrev recvArr : Bool → DmaSems sig S3
  | false => cc0_scratch8
  | true => cc0_scratch10
abbrev sendS (t : Bool) (h : Fin 3) : DmaSem sig :=
  (((sendArr t).slice (Rect.unit (s := S3) ![h.val] S1.size (sem3_inb h))).squeeze S_ squeezes_S1_S_).sem
abbrev recvS (t : Bool) (h : Fin 3) : DmaSem sig :=
  (((recvArr t).slice (Rect.unit (s := S3) ![h.val] S1.size (sem3_inb h))).squeeze S_ squeezes_S1_S_).sem
abbrev col : Bool → Fin 2
  | false => 0
  | true => 1
abbrev kvS (t : Bool) (s : Fin 2) : DmaSem sig :=
  ((cc0_scratch11.slice (Rect.unit (s := S2x2) ![s.val, (col t).val] S1x1.size (sem22_inb s (col t)))).squeeze S_ squeezes_S1x1_S_).sem

/-- What a semaphore is used for. -/
inductive Use where
  | bar
  | send (t : Bool) (h : Fin 3)
  | recv (t : Bool) (h : Fin 3)
  | loc
  deriving DecidableEq

def use : SemLoc sig → Use
  | .reg _ => .bar
  | .dma q => match q.val with
    | 4 => .send false 0 | 5 => .send false 1 | 6 => .send false 2
    | 7 => .recv false 0 | 8 => .recv false 1 | 9 => .recv false 2
    | 10 => .send true 0 | 11 => .send true 1 | 12 => .send true 2
    | 13 => .recv true 0 | 14 => .recv true 1 | 15 => .recv true 2
    | _ => .loc

theorem sendS_val (t : Bool) (h : Fin 3) : (sendS t h).val = 4 + 6 * t.toNat + h.val := by revert t h; decide
theorem recvS_val (t : Bool) (h : Fin 3) : (recvS t h).val = 7 + 6 * t.toNat + h.val := by revert t h; decide
theorem kvS_val (t : Bool) (s : Fin 2) : (kvS t s).val = 16 + 2 * s.val + t.toNat := by revert t s; decide

theorem use_send (t : Bool) (h : Fin 3) : use (.dma (sendS t h)) = .send t h := by
  unfold use; simp only [sendS_val]; revert t h; decide
theorem use_recv (t : Bool) (h : Fin 3) : use (.dma (recvS t h)) = .recv t h := by
  unfold use; simp only [recvS_val]; revert t h; decide
theorem use_kv (t : Bool) (s : Fin 2) : use (.dma (kvS t s)) = .loc := by
  unfold use; simp only [kvS_val]; revert t s; decide
theorem use_bar : use (.reg barS) = .bar := rfl

abbrev barCell (c : Dev nD) : GSem nD τ sig := ((c : Thread nD τ), .reg barS)
abbrev sendCell (t : Bool) (h : Fin 3) (c : Dev nD) : GSem nD τ sig := ((c : Thread nD τ), .dma (sendS t h))
abbrev recvCell (t : Bool) (h : Fin 3) (c : Dev nD) : GSem nD τ sig := ((c : Thread nD τ), .dma (recvS t h))

end Cert.KernelIdeal.RingAttn

end
-- ==== Proof.KernelIdealSched.lean ====
/-
The ring all-gather attention kernel, part 2: what each semaphore's round hands over, what each core owes at launch,
and the levels by which a wait never waits on itself.
-/
module

public import proofs.«01_k».proof.Proof.KernelIdealBase

@[expose] public section

noncomputable section

namespace Cert.KernelIdeal.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Slots held -/

/-- Slot `j` of a gathered buffer of device `c`, filled, at share `q`; -/
def slotAt (t : Bool) (c : Dev nD) (j : Fin 4) (q : PosShare TreeShare) : sProp 𝕄 :=
  (slot t j).view.loc (c : Thread nD τ) ↦[(slot t j).view.set]{q} chb m ρ t j
/-- at any contents, full. -/
def slotAny (t : Bool) (c : Dev nD) (j : Fin 4) : sProp 𝕄 :=
  iprop(∃ f, (slot t j).view.loc (c : Thread nD τ) ↦[(slot t j).view.set]{fullShare} f)

abbrev halfL : PosShare TreeShare := fullShare.left
abbrev halfR : PosShare TreeShare := fullShare.right

instance slotAt_storable (t : Bool) (c : Dev nD) (j : Fin 4) (q) : BI.Storable (upEmb : UEmb _ 𝕄) (slotAt (F := F) m ρ t c j q) := by
  unfold slotAt; infer_instance
omit [FloatOps F] [Named F] in
instance slotAny_storable (t : Bool) (c : Dev nD) (j : Fin 4) : BI.Storable (upEmb : UEmb _ 𝕄) (slotAny (F := F) t c j) := by
  unfold slotAny; infer_instance

theorem slotAt_split (t : Bool) (c : Dev nD) (j : Fin 4) :
    slotAt m ρ t c j fullShare ⊣⊢ iprop(slotAt m ρ t c j halfL ∗ slotAt m ρ t c j halfR) := by
  unfold slotAt
  exact pointsTo_share (PosShare.mem_left_op_right _)

/-! ## The schedule -/

/-- The hop before the last chunk, as an index of the four chunks; -/
abbrev up (h : Fin 3) : Fin 4 := h.castSucc

/-- The signal of `nxt c` hands `c` the slots of `nxt c` that `c` fills. -/
def barPay (c : Dev nD) : sProp 𝕄 :=
  iprop((slotAny (F := F) false (nxt c) (src c 0) ∗ slotAny (F := F) true (nxt c) (src c 0))
    ∗ (slotAny (F := F) false (nxt c) (src c 1) ∗ slotAny (F := F) true (nxt c) (src c 1))
    ∗ slotAny (F := F) false (nxt c) (src c 2) ∗ slotAny (F := F) true (nxt c) (src c 2))
/-- A landing hands over the slot, filled; -/
def recvPay (t : Bool) (h : Fin 3) (c : Dev nD) : sProp 𝕄 := slotAt m ρ t c (src (prv c) (up h)) fullShare
/-- the end of the sending hands back the half share lent. -/
def sendPay (t : Bool) (h : Fin 3) (c : Dev nD) : sProp 𝕄 := slotAt m ρ t c (src c (up h)) halfL

instance barPay_storable (c : Dev nD) : BI.Storable (upEmb : UEmb _ 𝕄) (barPay (F := F) c) := by unfold barPay; infer_instance
instance recvPay_storable (t h c) : BI.Storable (upEmb : UEmb _ 𝕄) (recvPay (F := F) m ρ t h c) := by unfold recvPay; infer_instance
instance sendPay_storable (t h c) : BI.Storable (upEmb : UEmb _ 𝕄) (sendPay (F := F) m ρ t h c) := by unfold sendPay; infer_instance

/-- The credit of one copy of a slot, of one copy of a head. -/
def NB (t : Bool) : ℕ := (slot t 0).view.dmaCredit
def NK (t : Bool) : ℕ := (stage t 0).view.dmaCredit
theorem NB_pos (t : Bool) : 0 < NB t := View.dmaCredit_pos _ (by decide)
theorem NK_pos (t : Bool) : 0 < NK t := View.dmaCredit_pos _ (by decide)
theorem NB_eq (t : Bool) (j : Fin 4) : (slot t j).view.dmaCredit = NB t := rfl
theorem NK_eq (t : Bool) (s : Fin 2) : (stage t s).view.dmaCredit = NK t := rfl

def ringDuties (u : Use) : Finset Bool := match u with
  | .bar => Finset.univ
  | .send _ _ => {false}
  | .recv _ _ => {false}
  | .loc => ∅
def ringAmount (u : Use) : ℕ := match u with
  | .bar => 1
  | .send t _ => NB t
  | .recv t _ => NB t
  | .loc => 1
def ringPay (u : Use) (c : Dev nD) (d : Bool) : sProp 𝕄 := match u with
  | .bar => match d with
    | true => barPay c
    | false => iprop(emp)
  | .send t h => sendPay m ρ t h c
  | .recv t h => recvPay m ρ t h c
  | .loc => iprop(emp)

/-- One round, round 0: a barrier cell has the two duties `false` (from `prv`) and `true` (from `nxt`) of one unit
    each; a send or receive cell of a hop the duty `false` of the slot's credit. -/
def ringRd : Rounds.Schedule (GSem nD τ sig) Bool 𝕄 where
  duties g r := if r = 0 ∧ g.1.2 = .tc then ringDuties (use g.2) else ∅
  unitless _ := False
  amount g _ _ := ringAmount (use g.2)
  payload g _ d := ringPay m ρ (use g.2) g.1.1 d
  amount_pos g _ _ _ := by
    unfold ringAmount
    split
    · exact Nat.one_pos
    · exact NB_pos _
    · exact NB_pos _
    · exact Nat.one_pos

instance ringRd_payload_storable (g : GSem nD τ sig) (r : ℕ) (d : Bool) :
    BI.Storable (upEmb : UEmb _ 𝕄) ((ringRd (F := F) m ρ).payload g r d) := by
  show BI.Storable upEmb (ringPay m ρ (use g.2) g.1.1 d)
  unfold ringPay
  (repeat' split) <;> infer_instance

section Sched
variable (c : Dev nD) (t : Bool) (h : Fin 3)

theorem duties_bar : (ringRd (F := F) m ρ).duties (barCell c) 0 = Finset.univ := by
  dsimp only [ringRd]; rw [if_pos ⟨rfl, rfl⟩]; rfl
theorem duties_send : (ringRd (F := F) m ρ).duties (sendCell t h c) 0 = {false} := by
  dsimp only [ringRd]; rw [if_pos ⟨rfl, rfl⟩, use_send]; rfl
theorem duties_recv : (ringRd (F := F) m ρ).duties (recvCell t h c) 0 = {false} := by
  dsimp only [ringRd]; rw [if_pos ⟨rfl, rfl⟩, use_recv]; rfl
theorem duties_later (g : GSem nD τ sig) : ∀ r, 1 ≤ r → (ringRd (F := F) m ρ).duties g r = ∅ :=
  fun r hr => by dsimp only [ringRd]; rw [if_neg fun h => by omega]

theorem amount_bar (d : Bool) : (ringRd (F := F) m ρ).amount (barCell c) 0 d = 1 := rfl
theorem amount_send (d : Bool) : (ringRd (F := F) m ρ).amount (sendCell t h c) 0 d = NB t := by
  show ringAmount (use (.dma (sendS t h))) = _; rw [use_send]; rfl
theorem amount_recv (d : Bool) : (ringRd (F := F) m ρ).amount (recvCell t h c) 0 d = NB t := by
  show ringAmount (use (.dma (recvS t h))) = _; rw [use_recv]; rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send : (ringRd (F := F) m ρ).expect (sendCell t h c) 0 = NB t := by
  unfold Schedule.expect Schedule.amountOf; rw [duties_send, Finset.sum_singleton, amount_send]
theorem expect_recv : (ringRd (F := F) m ρ).expect (recvCell t h c) 0 = NB t := by
  unfold Schedule.expect Schedule.amountOf; rw [duties_recv, Finset.sum_singleton, amount_recv]

theorem payload_bar_true : (ringRd (F := F) m ρ).payload (barCell c) 0 true = barPay c := rfl
theorem payload_bar_false : (ringRd (F := F) m ρ).payload (barCell c) 0 false = iprop(emp) := rfl
theorem payload_send (d : Bool) : (ringRd (F := F) m ρ).payload (sendCell t h c) 0 d = sendPay m ρ t h c := by
  show ringPay m ρ (use (.dma (sendS t h))) c d = _; rw [use_send]; rfl
theorem payload_recv (d : Bool) : (ringRd (F := F) m ρ).payload (recvCell t h c) 0 d = recvPay m ρ t h c := by
  show ringPay m ρ (use (.dma (recvS t h))) c d = _; rw [use_recv]; rfl

/-- The rest of a round, no duty taken. -/
theorem rest_bar : bigSep ((ringRd (F := F) m ρ).duties (barCell c) 0 \ ∅) (fun d => (ringRd (F := F) m ρ).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_send : bigSep ((ringRd (F := F) m ρ).duties (sendCell t h c) 0 \ ∅) (fun d => (ringRd (F := F) m ρ).payload (sendCell t h c) 0 d) = sendPay m ρ t h c := by
  rw [Finset.sdiff_empty, duties_send, bigSep_singleton, payload_send]
theorem rest_recv : bigSep ((ringRd (F := F) m ρ).duties (recvCell t h c) 0 \ ∅) (fun d => (ringRd (F := F) m ρ).payload (recvCell t h c) 0 d) = recvPay m ρ t h c := by
  rw [Finset.sdiff_empty, duties_recv, bigSep_singleton, payload_recv]

end Sched

/-! ## What each core owes at launch; the levels -/

/-- Device `c` owes `nxt c` six landings and both neighbours one barrier unit, summed so that each payment peels the
    last summand: the barrier of `prv c`, of `nxt c`, then hop by hop the query and the output projection. -/
def recvT (c : Dev nD) (t : Bool) (h : Fin 3) : CellTallies nD τ sig Unit := tallyAt (recvCell t h (nxt c)) () (NB t)
def owe2 (c : Dev nD) : CellTallies nD τ sig Unit := 0 + recvT c true 2 + recvT c false 2
def owe1 (c : Dev nD) : CellTallies nD τ sig Unit := owe2 c + recvT c true 1 + recvT c false 1
def owe0 (c : Dev nD) : CellTallies nD τ sig Unit := owe1 c + recvT c true 0 + recvT c false 0
/-- What is owed from hop `h` on, -/
def owe (c : Dev nD) (h : Fin 4) : CellTallies nD τ sig Unit := match h with
  | 0 => owe0 c
  | 1 => owe1 c
  | 2 => owe2 c
  | 3 => 0
/-- between the two barrier signals, and at launch. -/
def O₁ (c : Dev nD) : CellTallies nD τ sig Unit := owe0 c + tallyAt (barCell (nxt c)) () 1
def O₀ (c : Dev nD) : CellTallies nD τ sig Unit := O₁ c + tallyAt (barCell (prv c)) () 1

theorem owe_succ (c : Dev nD) (h : Fin 3) : owe c (up h) = owe c h.succ + recvT c true h + recvT c false h := by
  fin_cases h <;> rfl

def L (g : GSem nD τ sig) : Finset Unit := if g.1.2 = .tc then {()} else ∅
/-- barrier cells at 1, the receive cells of hop `h` at `2 + h`, everything else (staging, fetches, sending) at 0. -/
def lv (g : GSem nD τ sig) (_ : Unit) : ℕ := match use g.2 with
  | .bar => 1
  | .recv _ h => 2 + h.val
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (t : Bool) (h : Fin 3) : lv (recvCell t h c) () = 2 + h.val := by unfold lv; rw [use_recv]
theorem lv_send (c : Dev nD) (t : Bool) (h : Fin 3) : lv (sendCell t h c) () = 0 := by unfold lv; rw [use_send]
theorem lv_bar (c : Dev nD) : lv (barCell c) () = 1 := rfl

theorem recvT_pos {c : Dev nD} {t : Bool} {h : Fin 3} {g : GSem nD τ sig} {u : Unit} (H : 0 < recvT c t h g u) : g = recvCell t h (nxt c) := by
  unfold recvT at H
  rw [tallyAt_apply] at H
  by_contra hn
  rw [if_neg (fun h' => hn h'.1)] at H
  exact Nat.lt_irrefl 0 H

/-- What is owed from hop `h` on is owed to receive cells of hops from `h` on. -/
theorem owe_pos {c : Dev nD} {h : Fin 4} {g : GSem nD τ sig} {u : Unit} (H : 0 < owe c h g u) :
    ∃ (t : Bool) (h' : Fin 3), h.val ≤ h'.val ∧ g = recvCell t h' (nxt c) := by
  have step : ∀ (O : CellTallies nD τ sig Unit) (k : Fin 3), 0 < (O + recvT c true k + recvT c false k) g u →
      0 < O g u ∨ ∃ t : Bool, g = recvCell t k (nxt c) := by
    intro O k hk
    rw [Pi.add_apply, Finsupp.add_apply, Pi.add_apply, Finsupp.add_apply] at hk
    by_cases h1 : 0 < recvT c true k g u
    · exact .inr ⟨true, recvT_pos h1⟩
    by_cases h2 : 0 < recvT c false k g u
    · exact .inr ⟨false, recvT_pos h2⟩
    exact .inl (by omega)
  have z : ¬ 0 < (0 : CellTallies nD τ sig Unit) g u := Nat.lt_irrefl 0
  have h2 : 0 < owe2 c g u → ∃ t : Bool, g = recvCell t 2 (nxt c) := fun H => (step _ _ H).resolve_left z
  have h1 : 0 < owe1 c g u → (∃ t : Bool, g = recvCell t 2 (nxt c)) ∨ ∃ t : Bool, g = recvCell t 1 (nxt c) := fun H => (step _ _ H).imp_left h2
  have h0 : 0 < owe0 c g u → ((∃ t : Bool, g = recvCell t 2 (nxt c)) ∨ ∃ t : Bool, g = recvCell t 1 (nxt c)) ∨ ∃ t : Bool, g = recvCell t 0 (nxt c) :=
    fun H => (step _ _ H).imp_left h1
  fin_cases h
  · rcases h0 H with (⟨t, e⟩ | ⟨t, e⟩) | ⟨t, e⟩
    · exact ⟨t, 2, by decide, e⟩
    · exact ⟨t, 1, by decide, e⟩
    · exact ⟨t, 0, by decide, e⟩
  · rcases h1 H with ⟨t, e⟩ | ⟨t, e⟩
    · exact ⟨t, 2, by decide, e⟩
    · exact ⟨t, 1, by decide, e⟩
  · obtain ⟨t, e⟩ := h2 H
    exact ⟨t, 2, by decide, e⟩
  · exact absurd H z

theorem O₀_pos {c : Dev nD} {g : GSem nD τ sig} {u : Unit} (H : 0 < O₀ c g u) :
    (∃ (t : Bool) (h' : Fin 3), g = recvCell t h' (nxt c)) ∨ g = barCell (nxt c) ∨ g = barCell (prv c) := by
  unfold O₀ O₁ at H
  rw [Pi.add_apply, Finsupp.add_apply, Pi.add_apply, Finsupp.add_apply, tallyAt_apply, tallyAt_apply] at H
  by_contra hn
  rw [not_or, not_or] at hn
  rw [if_neg (fun h' => hn.2.1 h'.1), if_neg (fun h' => hn.2.2 h'.1)] at H
  obtain ⟨t, h', -, e⟩ := owe_pos (h := 0) (c := c) (g := g) (u := u) H
  exact hn.1 ⟨t, h', e⟩

omit [FloatOps F] [Named F] in
/-- While it owes from hop `h` on, a device may wait on any of its cells of level below `2 + h`. -/
theorem mayWait_owe (c : Dev nD) (sm : SemLoc sig) (h : Fin 4) (hsm : lv ((c : Thread nD τ), sm) () < 2 + h.val) :
    (levAts L lv : sProp 𝕄) ⊢ MayWait (c : Thread nD τ) sm () (owe c h) :=
  MayOwe.of_cut (L := L) (lev := lv) (lv ((c : Thread nD τ), sm) ()) (fun p hp => by rw [Finset.mem_singleton.mp hp, L_tc]; exact Finset.mem_singleton_self _)
    (fun g u hg => by obtain ⟨t, h', -, rfl⟩ := owe_pos hg; exact Finset.mem_singleton_self _)
    (fun p hp => by rw [Finset.mem_singleton.mp hp])
    (fun g u hg => by
      obtain ⟨t, h', hle, rfl⟩ := owe_pos hg
      rw [lv_recv]; omega)

omit [FloatOps F] [Named F] in
/-- At launch, and owing nothing, a device may wait on its level-0 cells. -/
theorem mayWait_stage (c : Dev nD) (sm : SemLoc sig) (hq : use sm = .loc) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, h', rfl⟩ | rfl | rfl <;> exact Finset.mem_singleton_self _)
      (fun p hp => by rw [Finset.mem_singleton.mp hp]; unfold lv; rw [hq])
      (fun g u hg => by
        rcases O₀_pos hg with ⟨t, h', rfl⟩ | rfl | rfl
        · rw [lv_recv]; omega
        · rw [lv_bar]; decide
        · rw [lv_bar]; decide)
  · rw [MayWait_zero]; iintro -; iempintro

end Cert.KernelIdeal.RingAttn

end
-- ==== Proof.KernelIdealTrip.lean ====
/-
The ring all-gather attention kernel, part 3: fetching a head, one trip of a chunk's loop over its eight heads, and the
loop.
-/
module

public import proofs.«01_k».proof.Proof.KernelIdealSched

@[expose] public section

noncomputable section

namespace Cert.KernelIdeal.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The heads' copies -/

/-- Staging slot `s` of device `c` at any contents; -/
def stageFree (t : Bool) (c : Dev nD) (s : Fin 2) : sProp 𝕄 :=
  iprop(∃ f, (stage t s).view.loc (c : Thread nD τ) ↦[(stage t s).view.set]{fullShare} f)
/-- holding head `h`; -/
def stageAt (t : Bool) (c : Dev nD) (s : Fin 2) (h : Fin 32) : sProp 𝕄 :=
  (stage t s).view.loc (c : Thread nD τ) ↦[(stage t s).view.set]{fullShare} stb m t c s h
/-- the semaphore of that slot, at zero; -/
def kvSem (t : Bool) (c : Dev nD) (s : Fin 2) : sProp 𝕄 := semVal ((c : Thread nD τ), .dma (kvS t s)) 0
/-- the device's keys or values, unchanged. -/
def arrAt (t : Bool) (c : Dev nD) : sProp 𝕄 := (arrM t).view.loc (c : Thread nD τ) ↦{fullShare} kvA m t c

/-- Head `h` on its way into slot `s`. -/
def InFl (t : Bool) (c : Dev nD) (s : Fin 2) (h : Fin 32) : sProp 𝕄 :=
  iprop(Transfers.Flight EC (c : Thread nD τ) (.dma (kvS t s)) () (NK t)
      iprop(stageAt m t c s h ∗ ((win t h).view.loc (c : Thread nD τ) ↦[(win t h).view.set]{fullShare} kvA m t c))
    ∗ ((win t h).view.loc (c : Thread nD τ) ↦[Finset.univ \ (win t h).view.set]{fullShare} kvA m t c))

/-- A core's debts, whatever it has waited on. -/
def oweAny (c : Dev nD) (O : CellTallies nD τ sig Unit) : sProp 𝕄 := iprop(∃ W, owes (c : Thread nD τ) O W)

variable {α : Type}

/-- What a landing writes is the head staged, on the slot's elements. -/
theorem landed (t : Bool) (c : Dev nD) (s : Fin 2) (h : Fin 32) (fd : (stage t s).view.ty.Contents (Elt F)) :
    ∀ i ∈ (stage t s).view.set, (stage t s).view.write (Elt F) fd ((win t h).view.read (Elt F) (kvA m t c)) Finset.univ i = stb m t c s h i := by
  intro i hi
  obtain ⟨x, -, rfl⟩ := Finset.mem_map.mp hi
  show _ = (stage t s).view.write (Elt F) _ (head m t c h) Finset.univ ((stage t s).view.emb x)
  rw [View.write_emb_of_mem _ _ (Finset.mem_univ x), View.write_emb_of_mem _ _ (Finset.mem_univ x)]
  rfl

theorem wp_fetch (t : Bool) (c : Dev nD) (s : Fin 2) (h : Fin 32)
    {hsrc : (win t h).view.WordExact} {hdst : (stage t s).view.WordExact} {hsem : DmaTarget.Typed (nD := nD) .hbm (.dma (kvS t s)) (DmaTarget.here (p := (c : Thread nD τ).2) (stage t s))}
    {k : PUnit.{1} → Prog (TpuEff nD τ sig (Elt F) Λ₀ .tc) α} {Q : α → sProp 𝕄} :
    iprop(arrAt m t c ∗ stageFree t c s ∗ kvSem t c s)
      ⊢ iprop((InFl m t c s h -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (win t h) (.here (stage t s)) (.dma (kvS t s)) hsrc hdst hsem) k) Q) := by
  unfold arrAt stageFree kvSem
  iintro ⟨Ha, ⟨%fd, Hd⟩, Hv⟩ Hk
  ihave Hs := (pointsTo_split_subset (Finset.subset_univ (win t h).view.set)).1 $$ Ha
  icases Hs with ⟨Hw, Hrest⟩
  iapply (Transfers.wp_dmaLocal (src := win t h) (dst := stage t s) (sm := .dma (kvS t s)) EC 𝒱₀ (c : Thread nD τ) none () (NK t) (NK_eq t s) (NK_pos t) (Finset.Subset.refl _)) $$ [Hw Hd Hv]
  · isplitl [Hw]; · iexact Hw
    isplitl [Hd]; · iexact Hd
    iexact Hv
  iintro Hf
  iapply Hk
  unfold InFl
  isplitl [Hf]
  · iapply (Transfers.Flight_mono EC (c : Thread nD τ) (D' := iprop(stageAt m t c s h ∗ ((win t h).view.loc (c : Thread nD τ) ↦[(win t h).view.set]{fullShare} kvA m t c))) (sep_mono (Entails.of_eq (pointsTo_congr (landed m t c s h fd))) .rfl)) $$ Hf
  · iexact Hrest

theorem wp_waitfetch (t : Bool) (c : Dev nD) (s : Fin 2) (h : Fin 32) {sp : Space} {s' : Shape} {e' : EltTy}
    {srcw : Memref sig .tc sp s' e'} {s'' : Shape} {e'' : EltTy} {sp' : Space} {dstw : Memref sig .tc sp' s'' e''}
    {hsrc : srcw.view.WordExact} {hdst : dstw.view.WordExact} (hN : dstw.view.dmaCredit = NK t)
    {k : PUnit.{1} → Prog (TpuEff nD τ sig (Elt F) Λ₀ .tc) α} {Q : α → sProp 𝕄} (O : CellTallies nD τ sig Unit) :
    iprop(InFl m t c s h ∗ oweAny c O ∗ MayWait (c : Thread nD τ) (.dma (kvS t s)) () O)
      ⊢ iprop((iprop(arrAt m t c ∗ stageAt m t c s h ∗ kvSem t c s ∗ oweAny c O) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (kvS t s) srcw dstw hsrc hdst) k) Q) := by
  unfold InFl oweAny
  iintro ⟨⟨Hf, Hrest⟩, ⟨%W, HO⟩, Hm⟩ Hk
  iapply (Transfers.wp_waitLocalO (sem := kvS t s) EC 𝒱₀ (c : Thread nD τ) none () hN (O := O) (W := W)) $$ [Hf HO Hm]
  · isplitl [Hf]; · iexact Hf
    isplitl [HO]; · iexact HO
    iexact Hm
  iintro ⟨⟨Hst, Hw⟩, Hv, HO⟩
  iapply Hk
  isplitl [Hw Hrest]
  · unfold arrAt
    iapply (pointsTo_split_subset (Finset.subset_univ (win t h).view.set)).2
    isplitl [Hw] <;> iassumption
  isplitl [Hst]; · iexact Hst
  isplitl [Hv]; · unfold kvSem; iexact Hv
  iexists _; iexact HO

/-! ## One trip -/

/-- The elements of a semaphore array, of a staging buffer, of the keys or values, at given offsets. -/
abbrev kvAt (o : Fin 2 → Nat) (i : ∀ a, o a + S1x1.size a ≤ S2x2.size a) : DmaSem sig :=
  ((cc0_scratch11.slice (Rect.unit (s := S2x2) o S1x1.size i)).squeeze S_ squeezes_S1x1_S_).sem
abbrev stageOf (t : Bool) (o : Fin 3 → Nat) (i : ∀ a, o a + S1x1024x128.size a ≤ S2x1024x128.size a) : Memref sig .tc .vmem S1024x128 .f32 :=
  ((stM t).slice (Rect.unit (s := S2x1024x128) o S1x1024x128.size i) (fun _ => rfl)).squeeze S1024x128 squeezes_S1x1024x128_S1024x128
abbrev winOf (t : Bool) (o : Fin 4 → Nat) (i : ∀ a, o a + S1x1024x1x128.size a ≤ S1x1024x32x128.size a) : Memref sig .tc .hbm S1024x128 .f32 :=
  ((arrM t).slice (Rect.unit (s := S1x1024x32x128) o S1x1024x1x128.size i) (fun _ => rfl)).squeeze S1024x128 squeezes_S1x1024x1x128_S1024x128

/-- The start of the next head's two copies, -/
def fetchKV (o9 : Fin 2 → Nat) (i9 : ∀ a, o9 a + S1x1.size a ≤ S2x2.size a) (o10 : Fin 3 → Nat) (i10 : ∀ a, o10 a + S1x1024x128.size a ≤ S2x1024x128.size a)
    (o11 : Fin 4 → Nat) (i11 : ∀ a, o11 a + S1x1024x1x128.size a ≤ S1x1024x32x128.size a)
    (o12 : Fin 2 → Nat) (i12 : ∀ a, o12 a + S1x1.size a ≤ S2x2.size a) : Prog (TpuEff nD τ sig (Elt F) Λ₀ .tc) PUnit.{1} := do
  Prog.lift (.enqueueDma (winOf false o11 i11) (.here (stageOf false o10 i10)) (.dma (kvAt o9 i9)) ((View.wordExact_bits rfl).reshape _ _) ((View.wordExact_bits rfl).reshape _ _) ⟨Or.inl rfl, trivial⟩)
  Prog.lift (.enqueueDma (winOf true o11 i11) (.here (stageOf true o10 i10)) (.dma (kvAt o12 i12)) ((View.wordExact_bits rfl).reshape _ _) ((View.wordExact_bits rfl).reshape _ _) ⟨Or.inl rfl, trivial⟩)

/-- and one trip around it: wait for this head's two copies, start the next head's, compute the head's attention. -/
def trip (o5 : Fin 2 → Nat) (i5 : ∀ a, o5 a + S1x1.size a ≤ S2x2.size a) (o6 : Fin 3 → Nat) (i6 : ∀ a, o6 a + S1x1024x128.size a ≤ S2x1024x128.size a)
    (o7 : Fin 4 → Nat) (i7 : ∀ a, o7 a + S1x1024x1x128.size a ≤ S1x1024x32x128.size a) (o8 : Fin 2 → Nat) (i8 : ∀ a, o8 a + S1x1.size a ≤ S2x2.size a)
    (o13 : Fin 2 → Nat) (i13 : ∀ a, o13 a + S1024x128.size a ≤ S1024x1024.size a) (p13 : (ctxM.access (Rect.unit (s := S1024x1024) o13 S1024x128.size i13)).Stores Finset.univ)
    (o14 : Fin 3 → Nat) (i14 : ∀ a, o14 a + S1x1024x128.size a ≤ S2x1024x128.size a)
    (fetch : Prog (TpuEff nD τ sig (Elt F) Λ₀ .tc) PUnit.{1}) : Prog (TpuEff nD τ sig (Elt F) Λ₀ .tc) Unit := do
  Prog.lift (.waitDma2 (kvAt o5 i5) (winOf false o7 i7) (stageOf false o6 i6) ((View.wordExact_bits rfl).reshape _ _) ((View.wordExact_bits rfl).reshape _ _))
  Prog.lift (.waitDma2 (kvAt o8 i8) (winOf true o7 i7) (stageOf true o6 i6) ((View.wordExact_bits rfl).reshape _ _) ((View.wordExact_bits rfl).reshape _ _))
  fetch
  let q : Vec F S1024x128 .bf16 ← Prog.lift (.load qM (Rect.unit (s := S1024x1024) o13 S1024x128.size i13).toLoadRect (View.loadsAt_vmem h_S1024x128))
  let k : Vec F S1x1024x128 .f32 ← Prog.lift (.load (stM false) (Rect.unit (s := S2x1024x128) o14 S1x1024x128.size i14).toLoadRect (View.loadsAt_vmem h_S1x1024x128))
  let b : Vec F S1024x1024 .f32 ← Prog.lift (.load biasM (Rect.unit (s := S1024x1024) ![0, 0] S1024x1024.size inb_S1024x1024_S1024x1024_0_0).toLoadRect (View.loadsAt_vmem h_S1024x1024))
  let v : Vec F S1x1024x128 .f32 ← Prog.lift (.load (stM true) (Rect.unit (s := S2x1024x128) o14 S1x1024x128.size i14).toLoadRect (View.loadsAt_vmem h_S1x1024x128))
  let _ : Vec F S1024x128 .bf16 ← Prog.lift (.load ctxM (Rect.unit (s := S1024x1024) o13 S1024x128.size i13).toLoadRect (View.loadsAt_vmem h_S1024x128))
  Prog.lift (.store ctxM (Rect.unit (s := S1024x1024) o13 S1024x128.size i13) (k0_pay15 q k b v) Finset.univ p13 (.inl rfl))
  pure ⟨⟩

section Eqs
variable (harg0 : xM.IsWhole) (harg1 : wqM.IsWhole) (harg2 : (arrM false).IsWhole) (harg3 : (arrM true).IsWhole) (harg4 : woM.IsWhole) (harg5 : outM.IsWhole)
  (harg6 : (chM false).IsWhole) (harg7 : (chM true).IsWhole) (harg8 : qM.IsWhole) (harg9 : ctxM.IsWhole) (harg10 : biasM.IsWhole) (harg11 : (stM false).IsWhole)
  (harg12 : (stM true).IsWhole) (d0 : Dev nD)

theorem t1_eq (v113 : FVec F S1024x1024 .bf16) (v116 v120 : BitVec 32) (k : Fin k0_t1_loop.trips) :
    k0_t1_body (F := F) xM harg0 wqM harg1 (arrM false) harg2 (arrM true) harg3 woM harg4 outM harg5 (chM false) harg6 (chM true) harg7 qM harg8 ctxM harg9 biasM harg10
        (stM false) harg11 (stM true) harg12 cc0_scratch7 cc0_scratch8 cc0_scratch9 cc0_scratch10 cc0_scratch11 d0 v113 v116 v120 k ⟨⟩
      = trip (k0_off5 k) (k0_off5_inb k) (k0_off6 k) (k0_off6_inb k) (k0_off7 d0 k) (k0_off7_inb d0 k) (k0_off8 k) (k0_off8_inb k)
          (k0_off13 k) (k0_off13_inb k) (View.stores_vmem h_S1024x128 (harg9.storeExact_slice rfl _ (k0_off13_packedbf16 k)) (fun _ => rfl)) (k0_off14 k) (k0_off14_inb k)
          (fetchKV (k0_off9 k) (k0_off9_inb k) (k0_off10 k) (k0_off10_inb k) (k0_off11 d0 k) (k0_off11_inb d0 k) (k0_off12 k) (k0_off12_inb k)) := by
  unfold k0_t1_body
  rw [k0_part1_eq_skeleton]
  rfl
theorem t2_eq (v4 v191 v195 c : BitVec 32) (k : Fin k0_t2_loop.trips) :
    k0_t2_body (F := F) xM harg0 wqM harg1 (arrM false) harg2 (arrM true) harg3 woM harg4 outM harg5 (chM false) harg6 (chM true) harg7 qM harg8 ctxM harg9 biasM harg10
        (stM false) harg11 (stM true) harg12 cc0_scratch7 cc0_scratch8 cc0_scratch9 cc0_scratch10 cc0_scratch11 d0 v4 v191 v195 c k ⟨⟩
      = trip (k0_off15 k) (k0_off15_inb k) (k0_off16 k) (k0_off16_inb k) (k0_off17 d0 k) (k0_off17_inb d0 k) (k0_off18 k) (k0_off18_inb k)
          (k0_off23 k) (k0_off23_inb k) (View.stores_vmem h_S1024x128 (harg9.storeExact_slice rfl _ (k0_off23_packedbf16 k)) (fun _ => rfl)) (k0_off24 k) (k0_off24_inb k)
          (fetchKV (k0_off19 k) (k0_off19_inb k) (k0_off20 k) (k0_off20_inb k) (k0_off21 d0 k) (k0_off21_inb d0 k) (k0_off22 k) (k0_off22_inb k)) := by
  unfold k0_t2_body
  rw [k0_part2_eq_skeleton]
  rfl
theorem t3_eq (v4 : BitVec 32) (v113 : FVec F S1024x1024 .bf16) (v266 v270 c : BitVec 32) (k : Fin k0_t3_loop.trips) :
    k0_t3_body (F := F) xM harg0 wqM harg1 (arrM false) harg2 (arrM true) harg3 woM harg4 outM harg5 (chM false) harg6 (chM true) harg7 qM harg8 ctxM harg9 biasM harg10
        (stM false) harg11 (stM true) harg12 cc0_scratch7 cc0_scratch8 cc0_scratch9 cc0_scratch10 cc0_scratch11 d0 v4 v113 v266 v270 c k ⟨⟩
      = trip (k0_off25 k) (k0_off25_inb k) (k0_off26 k) (k0_off26_inb k) (k0_off27 d0 k) (k0_off27_inb d0 k) (k0_off28 k) (k0_off28_inb k)
          (k0_off33 k) (k0_off33_inb k) (View.stores_vmem h_S1024x128 (harg9.storeExact_slice rfl _ (k0_off33_packedbf16 k)) (fun _ => rfl)) (k0_off34 k) (k0_off34_inb k)
          (fetchKV (k0_off29 k) (k0_off29_inb k) (k0_off30 k) (k0_off30_inb k) (k0_off31 d0 k) (k0_off31_inb d0 k) (k0_off32 k) (k0_off32_inb k)) := by
  unfold k0_t3_body
  rw [k0_part3_eq_skeleton]
  rfl
theorem t4_eq (v340 : BitVec 32) (k : Fin k0_t4_loop.trips) :
    k0_t4_body (F := F) xM harg0 wqM harg1 (arrM false) harg2 (arrM true) harg3 woM harg4 outM harg5 (chM false) harg6 (chM true) harg7 qM harg8 ctxM harg9 biasM harg10
        (stM false) harg11 (stM true) harg12 cc0_scratch7 cc0_scratch8 cc0_scratch9 cc0_scratch10 cc0_scratch11 d0 v340 k ⟨⟩
      = trip (k0_off36 k) (k0_off36_inb k) (k0_off37 k) (k0_off37_inb k) (k0_off38 d0 k) (k0_off38_inb d0 k) (k0_off39 k) (k0_off39_inb k)
          (k0_off44 k) (k0_off44_inb k) (View.stores_vmem h_S1024x128 (harg9.storeExact_slice rfl _ (k0_off44_packedbf16 k)) (fun _ => rfl)) (k0_off45 k) (k0_off45_inb k)
          (if h : k0_cond1 k = 1#1 then fetchKV (k0_off40 k) (k0_off40_inb k h) (k0_off41 k) (k0_off41_inb k h) (k0_off42 d0 k) (k0_off42_inb d0 k h) (k0_off43 k) (k0_off43_inb k h)
            else pure ⟨⟩) := by
  unfold k0_t4_body
  rw [k0_part4_eq_skeleton]
  unfold k0_part4_skel
  by_cases h : k0_cond1 k = 1#1
  · simp only [dif_pos h]; rfl
  · simp only [dif_neg h]; rfl

end Eqs

/-! ## A trip's specification -/

theorem col_inb (k : Fin 8) : ∀ a, (![0, 128 * k.val] : Fin 2 → Nat) a + S1024x128.size a ≤ S1024x1024.size a := by revert k; decide
/-- The columns of head `k` of a chunk. -/
abbrev colRect (k : Fin 8) : Rect S1024x1024 := Rect.unit (s := S1024x1024) ![0, 128 * k.val] S1024x128.size (col_inb k)

/-- What a trip stores: the attention of head `h` for the scaled queries `qv`. -/
def headOut (c : Dev nD) (qv : (cc0_scratch2 : Ref sig .tc).ty.Contents (Elt F)) (b : (cc0_scratch4 : Ref sig .tc).ty.Contents (Elt F)) (h : Fin 32) (k : Fin 8) : Vec F S1024x128 .bf16 :=
  k0_pay15 (qM.view.readAt (Elt F) (colRect k).toLoadRect qv) (hvec m false c h) b (hvec m true c h)

/-- A staging slot free, with its semaphore; -/
def slotFree (c : Dev nD) (s : Fin 2) : sProp 𝕄 :=
  iprop((stageFree false c s ∗ kvSem false c s) ∗ stageFree true c s ∗ kvSem true c s)
/-- nothing in flight into slot `s`; -/
def idle1 (c : Dev nD) (s : Fin 2) : sProp 𝕄 := iprop((arrAt m false c ∗ arrAt m true c) ∗ slotFree (F := F) c s)
/-- head `h` in flight into slot `s`. -/
def flying (c : Dev nD) (s : Fin 2) (h : Fin 32) : sProp 𝕄 := iprop(InFl m false c s h ∗ InFl m true c s h)

theorem hz2 : (![0, 0] : Fin 2 → Nat) = fun _ => 0 := funext fun a => by fin_cases a <;> rfl

theorem fetchKV_spec (c : Dev nD) (s : Fin 2) (h : Fin 32) {o9 i9 o10 i10 o11 i11 o12 i12}
    (h9 : o9 = ![s.val, (col false).val]) (h10 : o10 = ![s.val, 0, 0]) (h11 : o11 = ![0, 0, h.val, 0]) (h12 : o12 = ![s.val, (col true).val]) :
    idle1 m c s ⊢ wp frame (wpE (defs₀ (F := F)) 𝒱₀ (c : Thread nD τ) none) Set.univ (fetchKV o9 i9 o10 i10 o11 i11 o12 i12) (fun _ => flying m c s h) := by
  subst h9 h10 h11 h12
  unfold fetchKV idle1 slotFree flying
  simp only [Prog.lift, Prog.bind_op, Prog.bind_ret, Prog.pure_eq_ret]
  iintro ⟨⟨Ha, Hb⟩, ⟨Hs, Hv⟩, Hs', Hv'⟩
  iapply (wp_fetch m false c s h) $$ [Ha Hs Hv]
  · isplitl [Ha]; · iexact Ha
    isplitl [Hs] <;> iassumption
  iintro Hf
  iapply (wp_fetch m true c s h) $$ [Hb Hs' Hv']
  · isplitl [Hb]; · iexact Hb
    isplitl [Hs'] <;> iassumption
  iintro Hf'
  rw [wp_ret]
  imodintro
  isplitl [Hf] <;> iassumption

theorem trip_spec (c : Dev nD) (s : Fin 2) (h : Fin 32) (k : Fin 8) (O : CellTallies nD τ sig Unit)
    (hmw : ∀ t s, (levAts L lv : sProp 𝕄) ⊢ MayWait (c : Thread nD τ) (.dma (kvS t s)) () O)
    (qv : (cc0_scratch2 : Ref sig .tc).ty.Contents (Elt F)) (b : (cc0_scratch4 : Ref sig .tc).ty.Contents (Elt F)) (f : (cc0_scratch3 : Ref sig .tc).ty.Contents (Elt F))
    {fetch : Prog (TpuEff nD τ sig (Elt F) Λ₀ .tc) PUnit.{1}} {Post : sProp 𝕄}
    (hfetch : idle1 m c (s + 1) ⊢ wp frame (wpE (defs₀ (F := F)) 𝒱₀ (c : Thread nD τ) none) Set.univ fetch (fun _ => Post))
    {o5 i5 o6 i6 o7 i7 o8 i8 o13 i13 p13 o14 i14}
    (h5 : o5 = ![s.val, (col false).val]) (h8 : o8 = ![s.val, (col true).val])
    (h13 : o13 = ![0, 128 * k.val]) (h14 : o14 = ![s.val, 0, 0]) :
    iprop(levAts L lv ∗ flying m c s h ∗ slotFree c (s + 1) ∗ oweAny c O
        ∗ ((c : Thread nD τ).loc cc0_scratch2 ↦{fullShare} qv) ∗ ((c : Thread nD τ).loc cc0_scratch4 ↦{fullShare} b) ∗ ((c : Thread nD τ).loc cc0_scratch3 ↦{fullShare} f))
      ⊢ wp frame (wpE (defs₀ (F := F)) 𝒱₀ (c : Thread nD τ) none) Set.univ
          (trip o5 i5 o6 i6 o7 i7 o8 i8 o13 i13 p13 o14 i14 fetch)
          (fun _ => iprop(Post ∗ slotFree c s ∗ oweAny c O
            ∗ ((c : Thread nD τ).loc cc0_scratch2 ↦{fullShare} qv) ∗ ((c : Thread nD τ).loc cc0_scratch4 ↦{fullShare} b)
            ∗ ((c : Thread nD τ).loc cc0_scratch3 ↦{fullShare} (ctxM.access (colRect k)).write (Elt F) f (headOut m c qv b h k) Finset.univ))) := by
  subst h5 h8 h13 h14
  unfold trip flying
  simp only [Prog.lift, Prog.bind_op, Prog.bind_ret, Prog.pure_eq_ret]
  iintro ⟨#Hlv, ⟨HfA, HfB⟩, Hfree, HO, Hq, Hb, Hctx⟩
  ihave HmA := (hmw false s) $$ Hlv
  iapply (wp_waitfetch m false c s h (dstw := stageOf false o6 i6) rfl O) $$ [HfA HO HmA]
  · isplitl [HfA]; · iexact HfA
    isplitl [HO] <;> iassumption
  iintro ⟨HaA, HsA, HvA, HO⟩
  ihave HmB := (hmw true s) $$ Hlv
  iapply (wp_waitfetch m true c s h (dstw := stageOf true o6 i6) rfl O) $$ [HfB HO HmB]
  · isplitl [HfB]; · iexact HfB
    isplitl [HO] <;> iassumption
  iintro ⟨HaB, HsB, HvB, HO⟩
  rw [wp_bind]
  iapply wp_wand $$ [HaA HaB Hfree]
  · iapply hfetch
    unfold idle1
    isplitl [HaA HaB]
    · isplitl [HaA] <;> iassumption
    · iexact Hfree
  iintro %_ HPost
  iapply (wp_load 𝒱₀ (c : Thread nD τ) none Set.univ (m := qM) (Finset.subset_univ _)) $$ Hq; iintro Hq
  unfold stageAt
  iapply (wp_load_rect 𝒱₀ (c : Thread nD τ) none Set.univ (m := stM false) (r := stageRect s) (stage_set false s).symm.subset) $$ HsA; iintro HsA
  iapply (wp_load 𝒱₀ (c : Thread nD τ) none Set.univ (m := biasM) (Finset.subset_univ _)) $$ Hb; iintro Hb
  iapply (wp_load_rect 𝒱₀ (c : Thread nD τ) none Set.univ (m := stM true) (r := stageRect s) (stage_set true s).symm.subset) $$ HsB; iintro HsB
  iapply (wp_load 𝒱₀ (c : Thread nD τ) none Set.univ (m := ctxM) (Finset.subset_univ _)) $$ Hctx; iintro Hctx
  iapply (wp_store 𝒱₀ (c : Thread nD τ) none Set.univ (m := ctxM) (r := colRect k) (Mk := Finset.univ) (Finset.subset_univ _)) $$ Hctx; iintro Hctx
  rw [wp_ret]
  imodintro
  isplitl [HPost]; · iexact HPost
  isplitl [HsA HsB HvA HvB]
  · unfold slotFree stageFree
    isplitl [HsA HvA]
    · isplitl [HsA]; · iexists _; iexact HsA
      iexact HvA
    · isplitl [HsB]; · iexists _; iexact HsB
      iexact HvB
  isplitl [HO]; · iexact HO
  isplitl [Hq]; · iexact Hq
  isplitl [Hb]; · iexact Hb
  unfold headOut
  rw [← read_stage m false c s h, ← read_stage m true c s h]
  have hb : biasM.view.readAt (Elt F) (Rect.unit (s := S1024x1024) ![0, 0] S1024x1024.size inb_S1024x1024_S1024x1024_0_0).toLoadRect b = b :=
    Memref.readAt_unit_zero (Elt F) cc0_scratch4 hz2 _ b
  rw [hb]
  iexact Hctx

/-! ## The columns of a chunk -/

/-- Head `k` of chunk `j`. -/
def hd (j : Fin 4) (k : Fin 8) : Fin 32 := ⟨8 * j.val + k.val, by omega⟩
/-- The head a column belongs to, and its place in it. -/
def colHead (i : S1024x1024.Idx) : Fin 8 := ⟨(i 1).val / 128, Nat.div_lt_of_lt_mul (i 1).isLt⟩
def colIn (i : S1024x1024.Idx) : S1024x128.Idx := Shape.pair (d := ![1024, 128]) (i 0) ⟨(i 1).val % 128, Nat.mod_lt _ (by decide)⟩

theorem colRect_emb (i : S1024x1024.Idx) : (colRect (colHead i)).emb (colIn i) = i := by
  funext a
  apply Fin.ext
  rw [Rect.emb_apply]
  fin_cases a
  · show 0 + 1 * (i 0).val = (i 0).val; omega
  · show 128 * ((i 1).val / 128) + 1 * ((i 1).val % 128) = (i 1).val; omega

omit [FloatOps F] [Named F] in
/-- A write of head `k`'s columns, read at an element. -/
theorem write_col (k : Fin 8) (f : (cc0_scratch3 : Ref sig .tc).ty.Contents (Elt F)) (w : S1024x128.Idx → Elt F .bf16) (i : S1024x1024.Idx) :
    ((ctxM.access (colRect k)).write (Elt F) f w Finset.univ : S1024x1024.Idx → Elt F .bf16) i = if colHead i = k then w (colIn i) else f i := by
  split
  · rename_i h
    subst h
    have h1 := View.write_emb_of_mem (v := ctxM.access (colRect (colHead i))) (Val := Elt F) f w (M := Finset.univ) (Finset.mem_univ (colIn i))
    have h2 : (ctxM.access (colRect (colHead i))).emb (colIn i) = i := colRect_emb i
    rw [h2] at h1
    exact h1
  · rename_i h
    refine View.write_of_not_mem (v := ctxM.access (colRect k)) (Val := Elt F) f w (M := Finset.univ) (i := i) fun hi => h ?_
    obtain ⟨x, -, hx⟩ := Finset.mem_map.mp hi
    have h1 : (128 * k.val + 1 * (x 1).val) = (i 1).val := congrArg (fun j : S1024x1024.Idx => (j 1).val) hx
    have h2 : (x 1).val < 128 := (x 1).isLt
    apply Fin.ext
    show (i 1).val / 128 = k.val
    omega

/-- The attention of chunk `j`, all eight heads. -/
def ctxv (c : Dev nD) (qv : (cc0_scratch2 : Ref sig .tc).ty.Contents (Elt F)) (b : (cc0_scratch4 : Ref sig .tc).ty.Contents (Elt F)) (j : Fin 4) :
    (cc0_scratch3 : Ref sig .tc).ty.Contents (Elt F) :=
  fun i : S1024x1024.Idx => headOut m c qv b (hd j (colHead i)) (colHead i) (colIn i)

/-- The first `n` heads of a chunk done. -/
def Upto (c : Dev nD) (qv : (cc0_scratch2 : Ref sig .tc).ty.Contents (Elt F)) (b : (cc0_scratch4 : Ref sig .tc).ty.Contents (Elt F)) (j : Fin 4) (n : ℕ)
    (f : (cc0_scratch3 : Ref sig .tc).ty.Contents (Elt F)) : Prop :=
  ∀ i : S1024x1024.Idx, (colHead i).val < n → (f : S1024x1024.Idx → Elt F .bf16) i = (ctxv m c qv b j : S1024x1024.Idx → Elt F .bf16) i

theorem Upto_succ (c : Dev nD) (qv b) (j : Fin 4) (k : Fin 8) (f) (hf : Upto m c qv b j k.val f) :
    Upto m c qv b j (k.val + 1) ((ctxM.access (colRect k)).write (Elt F) f (headOut m c qv b (hd j k) k) Finset.univ) := by
  intro i hi
  rw [write_col]
  split
  · rename_i h; subst h; rfl
  · rename_i h; exact hf i (by have : (colHead i).val ≠ k.val := fun e => h (Fin.ext e); omega)

theorem Upto_all (c : Dev nD) (qv b) (j : Fin 4) (f) (hf : Upto m c qv b j 8 f) : f = ctxv m c qv b j :=
  funext fun i : S1024x1024.Idx => hf i (colHead i).isLt

/-! ## The loop -/

def par (n : ℕ) : Fin 2 := ⟨n % 2, Nat.mod_lt _ (by decide)⟩

/-- What is under way before trip `n` of chunk `j`, the chunk after it `nx` (if any). -/
def St (c : Dev nD) (j : Fin 4) (nx : Option (Fin 4)) (n : ℕ) : sProp 𝕄 :=
  iprop((if h : n < 8 then flying m c (par n) (hd j ⟨n, h⟩) else match nx with
    | some j' => flying m c (par n) (hd j' 0)
    | none => idle1 m c (par n)) ∗ slotFree c (par n + 1))

theorem par_succ (n : ℕ) : par n + 1 = par (n + 1) := by
  apply Fin.ext; show (n % 2 + 1) % 2 = (n + 1) % 2; omega
theorem par_succ2 (n : ℕ) : par (n + 1) + 1 = par n := by
  rw [par_succ]; apply Fin.ext; show (n + 1 + 1) % 2 = n % 2; omega

/-- The loop's invariant before trip `n`. -/
def Inv (c : Dev nD) (O : CellTallies nD τ sig Unit) (j : Fin 4) (nx : Option (Fin 4)) (qv : (cc0_scratch2 : Ref sig .tc).ty.Contents (Elt F))
    (b : (cc0_scratch4 : Ref sig .tc).ty.Contents (Elt F)) (n : ℕ) : sProp 𝕄 :=
  iprop(levAts L lv ∗ St m c j nx n ∗ oweAny c O
    ∗ ((c : Thread nD τ).loc cc0_scratch2 ↦{fullShare} qv) ∗ ((c : Thread nD τ).loc cc0_scratch4 ↦{fullShare} b)
    ∗ ∃ f, ⌜Upto m c qv b j n f⌝ ∗ ((c : Thread nD τ).loc cc0_scratch3 ↦{fullShare} f))

/-- What the fetch in trip `n` leaves. -/
def Next (c : Dev nD) (j : Fin 4) (nx : Option (Fin 4)) (n : ℕ) : sProp 𝕄 :=
  if h : n + 1 < 8 then flying m c (par (n + 1)) (hd j ⟨n + 1, h⟩) else match nx with
    | some j' => flying m c (par (n + 1)) (hd j' 0)
    | none => idle1 m c (par (n + 1))

theorem Next_St (c : Dev nD) (j : Fin 4) (nx : Option (Fin 4)) (n : ℕ) : iprop(Next m c j nx n ∗ slotFree c (par n)) ⊢ St m c j nx (n + 1) := by
  unfold Next St
  rw [par_succ2]

/-- One trip keeps the invariant. -/
theorem trip_inv (c : Dev nD) (O : CellTallies nD τ sig Unit) (hmw : ∀ t s, (levAts L lv : sProp 𝕄) ⊢ MayWait (c : Thread nD τ) (.dma (kvS t s)) () O)
    (j : Fin 4) (nx : Option (Fin 4)) (qv b) (k : Fin 8)
    {fetch : Prog (TpuEff nD τ sig (Elt F) Λ₀ .tc) PUnit.{1}}
    (hfetch : idle1 m c (par (k.val + 1)) ⊢ wp frame (wpE (defs₀ (F := F)) 𝒱₀ (c : Thread nD τ) none) Set.univ fetch (fun _ => Next m c j nx k.val))
    {o5 i5 o6 i6 o7 i7 o8 i8 o13 i13 p13 o14 i14}
    (h5 : o5 = ![(par k.val).val, (col false).val]) (h8 : o8 = ![(par k.val).val, (col true).val])
    (h13 : o13 = ![0, 128 * k.val]) (h14 : o14 = ![(par k.val).val, 0, 0]) :
    Inv m c O j nx qv b k.val ⊢ wp frame (wpE (defs₀ (F := F)) 𝒱₀ (c : Thread nD τ) none) Set.univ
      (trip o5 i5 o6 i6 o7 i7 o8 i8 o13 i13 p13 o14 i14 fetch) (fun _ => Inv m c O j nx qv b (k.val + 1)) := by
  unfold Inv
  iintro ⟨#Hlv, HSt, HO, Hq, Hb, ⟨%f, %hf, Hctx⟩⟩
  ihave HSt := (show St m c j nx k.val ⊢ iprop(flying m c (par k.val) (hd j k) ∗ slotFree c (par k.val + 1)) from by
    unfold St; rw [dif_pos k.isLt]) $$ HSt
  icases HSt with ⟨Hfl, Hfree⟩
  iapply wp_wand $$ [Hfl Hfree HO Hq Hb Hctx]
  · iapply (trip_spec m c (par k.val) (hd j k) k O hmw qv b f (fetch := fetch) (Post := Next m c j nx k.val) (by rw [par_succ]; exact hfetch) h5 h8 h13 h14)
    isplitr; · iexact Hlv
    isplitl [Hfl]; · iexact Hfl
    isplitl [Hfree]; · iexact Hfree
    isplitl [HO]; · iexact HO
    isplitl [Hq]; · iexact Hq
    isplitl [Hb]; · iexact Hb
    iexact Hctx
  iintro %_ ⟨HN, Hfree, HO, Hq, Hb, Hctx⟩
  isplitr; · iexact Hlv
  isplitl [HN Hfree]
  · iapply (Next_St m c j nx k.val)
    isplitl [HN] <;> iassumption
  isplitl [HO]; · iexact HO
  isplitl [Hq]; · iexact Hq
  isplitl [Hb]; · iexact Hb
  iexists _
  isplitr
  · ipureintro; exact Upto_succ m c qv b j k f hf
  · iexact Hctx

theorem loop_spec (c : Dev nD) (O : CellTallies nD τ sig Unit) (j : Fin 4) (nx : Option (Fin 4)) (qv b)
    (lp : Scf.Loop 32) (ok : lp.OK) (htr : lp.trips = 8) (body : Fin lp.trips → Unit → Prog (TpuEff nD τ sig (Elt F) Λ₀ .tc) Unit)
    (hbody : ∀ k : Fin lp.trips, Inv m c O j nx qv b k.val ⊢ wp frame (wpE (defs₀ (F := F)) 𝒱₀ (c : Thread nD τ) none) Set.univ (body k ⟨⟩) (fun _ => Inv m c O j nx qv b (k.val + 1)))
    (f : (cc0_scratch3 : Ref sig .tc).ty.Contents (Elt F)) :
    iprop(levAts L lv ∗ St m c j nx 0 ∗ oweAny c O
        ∗ ((c : Thread nD τ).loc cc0_scratch2 ↦{fullShare} qv) ∗ ((c : Thread nD τ).loc cc0_scratch4 ↦{fullShare} b) ∗ ((c : Thread nD τ).loc cc0_scratch3 ↦{fullShare} f))
      ⊢ wp frame (wpE (defs₀ (F := F)) 𝒱₀ (c : Thread nD τ) none) Set.univ (Scf.Loop.for lp ok ⟨⟩ body)
          (fun _ => iprop(St m c j nx 8 ∗ oweAny c O
            ∗ ((c : Thread nD τ).loc cc0_scratch2 ↦{fullShare} qv) ∗ ((c : Thread nD τ).loc cc0_scratch4 ↦{fullShare} b)
            ∗ ((c : Thread nD τ).loc cc0_scratch3 ↦{fullShare} ctxv m c qv b j))) := by
  iintro ⟨#Hlv, HSt, HO, Hq, Hb, Hctx⟩
  iapply (Scf.wp_for frame (wpE (defs₀ (F := F)) 𝒱₀ (c : Thread nD τ) none) Set.univ lp.lb lp.ub lp.st ok (⟨⟩ : Unit) body (fun n _ => Inv m c O j nx qv b n) (fun k _ => hbody k))
  isplitl [HSt HO Hq Hb Hctx]
  · unfold Inv
    isplitr; · iexact Hlv
    isplitl [HSt]; · iexact HSt
    isplitl [HO]; · iexact HO
    isplitl [Hq]; · iexact Hq
    isplitl [Hb]; · iexact Hb
    iexists f
    isplitr
    · ipureintro; intro i hi; exact absurd hi (Nat.not_lt_zero _)
    · iexact Hctx
  iintro %_ HI
  rw [show Scf.trips lp.lb lp.ub lp.st = 8 from htr]
  unfold Inv
  icases HI with ⟨-, HSt, HO, Hq, Hb, ⟨%f', %hf, Hctx⟩⟩
  obtain rfl := Upto_all m c qv b j f' hf
  isplitl [HSt]; · iexact HSt
  isplitl [HO]; · iexact HO
  isplitl [Hq]; · iexact Hq
  isplitl [Hb]; · iexact Hb
  iexact Hctx

/-! ## The four loops -/

theorem trips1 : k0_t1_loop.trips = 8 := by decide
theorem trips2 : k0_t2_loop.trips = 8 := by decide
theorem trips3 : k0_t3_loop.trips = 8 := by decide
theorem trips4 : k0_t4_loop.trips = 8 := by decide

/-- The head fetched in trip `k`. -/
def nextHd (j j' : Fin 4) (k : ℕ) : Fin 32 := if h : k + 1 < 8 then hd j ⟨k + 1, h⟩ else hd j' 0

theorem fetch_some (c : Dev nD) (j j' : Fin 4) (k : ℕ) {o9 i9 o10 i10 o11 i11 o12 i12}
    (h9 : o9 = ![(par (k + 1)).val, (col false).val]) (h10 : o10 = ![(par (k + 1)).val, 0, 0]) (h11 : o11 = ![0, 0, (nextHd j j' k).val, 0])
    (h12 : o12 = ![(par (k + 1)).val, (col true).val]) :
    idle1 m c (par (k + 1)) ⊢ wp frame (wpE (defs₀ (F := F)) 𝒱₀ (c : Thread nD τ) none) Set.univ (fetchKV o9 i9 o10 i10 o11 i11 o12 i12) (fun _ => Next m c j (some j') k) := by
  refine (fetchKV_spec m c (par (k + 1)) (nextHd j j' k) h9 h10 h11 h12).trans (wp_mono _ _ _ fun _ => ?_)
  unfold Next nextHd
  split <;> exact .rfl

section Loops
variable (harg0 : xM.IsWhole) (harg1 : wqM.IsWhole) (harg2 : (arrM false).IsWhole) (harg3 : (arrM true).IsWhole) (harg4 : woM.IsWhole) (harg5 : outM.IsWhole)
  (harg6 : (chM false).IsWhole) (harg7 : (chM true).IsWhole) (harg8 : qM.IsWhole) (harg9 : ctxM.IsWhole) (harg10 : biasM.IsWhole) (harg11 : (stM false).IsWhole)
  (harg12 : (stM true).IsWhole) (c : Dev nD) (O : CellTallies nD τ sig Unit)
  (qv : (cc0_scratch2 : Ref sig .tc).ty.Contents (Elt F)) (b : (cc0_scratch4 : Ref sig .tc).ty.Contents (Elt F)) (f : (cc0_scratch3 : Ref sig .tc).ty.Contents (Elt F))

set_option maxRecDepth 10000

theorem loop1_spec (hmw : ∀ t s, (levAts L lv : sProp 𝕄) ⊢ MayWait (c : Thread nD τ) (.dma (kvS t s)) () O) (v113 : FVec F S1024x1024 .bf16) (v116 v120 : BitVec 32) :
    iprop(levAts L lv ∗ St m c (src c 0) (some (src c 1)) 0 ∗ oweAny c O
        ∗ ((c : Thread nD τ).loc cc0_scratch2 ↦{fullShare} qv) ∗ ((c : Thread nD τ).loc cc0_scratch4 ↦{fullShare} b) ∗ ((c : Thread nD τ).loc cc0_scratch3 ↦{fullShare} f))
      ⊢ wp frame (wpE (defs₀ (F := F)) 𝒱₀ (c : Thread nD τ) none) Set.univ
          (Scf.Loop.for k0_t1_loop k0_t1_ok ⟨⟩ (k0_t1_body (F := F) xM harg0 wqM harg1 (arrM false) harg2 (arrM true) harg3 woM harg4 outM harg5 (chM false) harg6 (chM true) harg7 qM harg8 ctxM harg9 biasM harg10
            (stM false) harg11 (stM true) harg12 cc0_scratch7 cc0_scratch8 cc0_scratch9 cc0_scratch10 cc0_scratch11 c v113 v116 v120))
          (fun _ => iprop(St m c (src c 0) (some (src c 1)) 8 ∗ oweAny c O
            ∗ ((c : Thread nD τ).loc cc0_scratch2 ↦{fullShare} qv) ∗ ((c : Thread nD τ).loc cc0_scratch4 ↦{fullShare} b)
            ∗ ((c : Thread nD τ).loc cc0_scratch3 ↦{fullShare} ctxv m c qv b (src c 0)))) := by
  refine loop_spec m c O (src c 0) (some (src c 1)) qv b k0_t1_loop k0_t1_ok trips1 _ (fun k => ?_) f
  rw [t1_eq]
  refine trip_inv m c O hmw (src c 0) (some (src c 1)) qv b (Fin.cast trips1 k) (fetch_some m c (src c 0) (src c 1) k.val ?_ ?_ ?_ ?_) ?_ ?_ ?_ ?_
  · revert k; decide
  · revert k; decide
  · clear hmw; revert c k; decide
  · revert k; decide
  · revert k; decide
  · revert k; decide
  · revert k; decide
  · revert k; decide

theorem loop2_spec (hmw : ∀ t s, (levAts L lv : sProp 𝕄) ⊢ MayWait (c : Thread nD τ) (.dma (kvS t s)) () O) (v4 v191 v195 e : BitVec 32) :
    iprop(levAts L lv ∗ St m c (src c 1) (some (src c 2)) 0 ∗ oweAny c O
        ∗ ((c : Thread nD τ).loc cc0_scratch2 ↦{fullShare} qv) ∗ ((c : Thread nD τ).loc cc0_scratch4 ↦{fullShare} b) ∗ ((c : Thread nD τ).loc cc0_scratch3 ↦{fullShare} f))
      ⊢ wp frame (wpE (defs₀ (F := F)) 𝒱₀ (c : Thread nD τ) none) Set.univ
          (Scf.Loop.for k0_t2_loop k0_t2_ok ⟨⟩ (k0_t2_body (F := F) xM harg0 wqM harg1 (arrM false) harg2 (arrM true) harg3 woM harg4 outM harg5 (chM false) harg6 (chM true) harg7 qM harg8 ctxM harg9 biasM harg10
            (stM false) harg11 (stM true) harg12 cc0_scratch7 cc0_scratch8 cc0_scratch9 cc0_scratch10 cc0_scratch11 c v4 v191 v195 e))
          (fun _ => iprop(St m c (src c 1) (some (src c 2)) 8 ∗ oweAny c O
            ∗ ((c : Thread nD τ).loc cc0_scratch2 ↦{fullShare} qv) ∗ ((c : Thread nD τ).loc cc0_scratch4 ↦{fullShare} b)
            ∗ ((c : Thread nD τ).loc cc0_scratch3 ↦{fullShare} ctxv m c qv b (src c 1)))) := by
  refine loop_spec m c O (src c 1) (some (src c 2)) qv b k0_t2_loop k0_t2_ok trips2 _ (fun k => ?_) f
  rw [t2_eq]
  refine trip_inv m c O hmw (src c 1) (some (src c 2)) qv b (Fin.cast trips2 k) (fetch_some m c (src c 1) (src c 2) k.val ?_ ?_ ?_ ?_) ?_ ?_ ?_ ?_
  · revert k; decide
  · revert k; decide
  · clear hmw; revert c k; decide
  · revert k; decide
  · revert k; decide
  · revert k; decide
  · revert k; decide
  · revert k; decide

theorem loop3_spec (hmw : ∀ t s, (levAts L lv : sProp 𝕄) ⊢ MayWait (c : Thread nD τ) (.dma (kvS t s)) () O) (v4 : BitVec 32) (v113 : FVec F S1024x1024 .bf16) (v266 v270 e : BitVec 32) :
    iprop(levAts L lv ∗ St m c (src c 2) (some (src c 3)) 0 ∗ oweAny c O
        ∗ ((c : Thread nD τ).loc cc0_scratch2 ↦{fullShare} qv) ∗ ((c : Thread nD τ).loc cc0_scratch4 ↦{fullShare} b) ∗ ((c : Thread nD τ).loc cc0_scratch3 ↦{fullShare} f))
      ⊢ wp frame (wpE (defs₀ (F := F)) 𝒱₀ (c : Thread nD τ) none) Set.univ
          (Scf.Loop.for k0_t3_loop k0_t3_ok ⟨⟩ (k0_t3_body (F := F) xM harg0 wqM harg1 (arrM false) harg2 (arrM true) harg3 woM harg4 outM harg5 (chM false) harg6 (chM true) harg7 qM harg8 ctxM harg9 biasM harg10
            (stM false) harg11 (stM true) harg12 cc0_scratch7 cc0_scratch8 cc0_scratch9 cc0_scratch10 cc0_scratch11 c v4 v113 v266 v270 e))
          (fun _ => iprop(St m c (src c 2) (some (src c 3)) 8 ∗ oweAny c O
            ∗ ((c : Thread nD τ).loc cc0_scratch2 ↦{fullShare} qv) ∗ ((c : Thread nD τ).loc cc0_scratch4 ↦{fullShare} b)
            ∗ ((c : Thread nD τ).loc cc0_scratch3 ↦{fullShare} ctxv m c qv b (src c 2)))) := by
  refine loop_spec m c O (src c 2) (some (src c 3)) qv b k0_t3_loop k0_t3_ok trips3 _ (fun k => ?_) f
  rw [t3_eq]
  refine trip_inv m c O hmw (src c 2) (some (src c 3)) qv b (Fin.cast trips3 k) (fetch_some m c (src c 2) (src c 3) k.val ?_ ?_ ?_ ?_) ?_ ?_ ?_ ?_
  · revert k; decide
  · revert k; decide
  · clear hmw; revert c k; decide
  · revert k; decide
  · revert k; decide
  · revert k; decide
  · revert k; decide
  · revert k; decide

theorem loop4_spec (hmw : ∀ t s, (levAts L lv : sProp 𝕄) ⊢ MayWait (c : Thread nD τ) (.dma (kvS t s)) () O) (v340 : BitVec 32) :
    iprop(levAts L lv ∗ St m c (src c 3) none 0 ∗ oweAny c O
        ∗ ((c : Thread nD τ).loc cc0_scratch2 ↦{fullShare} qv) ∗ ((c : Thread nD τ).loc cc0_scratch4 ↦{fullShare} b) ∗ ((c : Thread nD τ).loc cc0_scratch3 ↦{fullShare} f))
      ⊢ wp frame (wpE (defs₀ (F := F)) 𝒱₀ (c : Thread nD τ) none) Set.univ
          (Scf.Loop.for k0_t4_loop k0_t4_ok ⟨⟩ (k0_t4_body (F := F) xM harg0 wqM harg1 (arrM false) harg2 (arrM true) harg3 woM harg4 outM harg5 (chM false) harg6 (chM true) harg7 qM harg8 ctxM harg9 biasM harg10
            (stM false) harg11 (stM true) harg12 cc0_scratch7 cc0_scratch8 cc0_scratch9 cc0_scratch10 cc0_scratch11 c v340))
          (fun _ => iprop(St m c (src c 3) none 8 ∗ oweAny c O
            ∗ ((c : Thread nD τ).loc cc0_scratch2 ↦{fullShare} qv) ∗ ((c : Thread nD τ).loc cc0_scratch4 ↦{fullShare} b)
            ∗ ((c : Thread nD τ).loc cc0_scratch3 ↦{fullShare} ctxv m c qv b (src c 3)))) := by
  refine loop_spec m c O (src c 3) none qv b k0_t4_loop k0_t4_ok trips4 _ (fun k => ?_) f
  rw [t4_eq]
  refine trip_inv m c O hmw (src c 3) none qv b (Fin.cast trips4 k) ?_ ?_ ?_ ?_ ?_
  · have hk : k0_cond1 k = 1#1 ↔ k.val + 1 < 8 := by revert k; decide
    by_cases h : k0_cond1 k = 1#1
    · rw [dif_pos h]
      refine (fetchKV_spec m c (par (k.val + 1)) (hd (src c 3) ⟨k.val + 1, hk.mp h⟩) ?_ ?_ ?_ ?_).trans (wp_mono _ _ _ fun _ => ?_)
      · clear hmw; revert k; decide
      · clear hmw; revert k; decide
      · clear hmw; revert c k; decide
      · clear hmw; revert k; decide
      · unfold Next
        rw [dif_pos (show (Fin.cast _ k : Fin 8).val + 1 < 8 from hk.mp h)]
        exact .rfl
    · rw [dif_neg h, Prog.pure_eq_ret, wp_ret]
      unfold Next
      rw [dif_neg (show ¬ (Fin.cast _ k : Fin 8).val + 1 < 8 from fun h' => h (hk.mpr h'))]
      iintro H
      imodintro
      iexact H
  · revert k; decide
  · revert k; decide
  · revert k; decide
  · revert k; decide

end Loops

end Cert.KernelIdeal.RingAttn

end
-- ==== Proof.KernelIdealHop.lean ====
/-
The ring all-gather attention kernel, part 4: one hop. The two copies to the next device are started, the chunk
held is computed with, and the copies of this hop (the outgoing and the incoming ones) are waited for.
-/
module

public import proofs.«01_k».proof.Proof.KernelIdealTrip

@[expose] public section

noncomputable section

namespace Cert.KernelIdeal.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells, indexed -/

/-- The ring's cells of one device: its barrier, and of each hop and weight the end of sending and the landing. -/
abbrev CK : Type := Option (Bool × Bool × Fin 3)
abbrev csem : CK → SemLoc sig
  | none => .reg barS
  | some (false, t, h) => .dma (sendS t h)
  | some (true, t, h) => .dma (recvS t h)
abbrev kcell (ck : Dev nD × CK) : GSem nD τ sig := ((ck.1 : Thread nD τ), csem ck.2)

/-- What every device knows of all the ring's cells: their invariants, round 0 reached, and the levels. -/
def wire (K : Dev nD × CK → ℕ) : sProp 𝕄 :=
  iprop((bigSep Finset.univ fun ck : Dev nD × CK => cellInv ER (ringRd m ρ) (K ck) (kcell ck))
    ∗ (bigSep Finset.univ fun ck : Dev nD × CK => reached ER (kcell ck) 0) ∗ levAts L lv)

instance wire_persistent (K : Dev nD × CK → ℕ) : BI.Persistent (wire m ρ K) := by unfold wire; infer_instance

theorem wire_inv (K : Dev nD × CK → ℕ) (ck : Dev nD × CK) : wire m ρ K ⊢ cellInv ER (ringRd m ρ) (K ck) (kcell ck) := by
  have h : (bigSep Finset.univ fun ck : Dev nD × CK => (cellInv ER (ringRd m ρ) (K ck) (kcell ck) : sProp 𝕄)) ⊢ cellInv ER (ringRd m ρ) (K ck) (kcell ck) :=
    bigSep_elim (Finset.mem_univ ck)
  unfold wire
  iintro ⟨H, -⟩
  iapply h $$ H
theorem wire_reached (K : Dev nD × CK → ℕ) (ck : Dev nD × CK) : wire m ρ K ⊢ reached ER (kcell ck) 0 := by
  have h : (bigSep Finset.univ fun ck : Dev nD × CK => (reached ER (kcell ck) 0 : sProp 𝕄)) ⊢ reached ER (kcell ck) 0 := bigSep_elim (Finset.mem_univ ck)
  unfold wire
  iintro ⟨-, H, -⟩
  iapply h $$ H
theorem wire_lev (K : Dev nD × CK → ℕ) : wire m ρ K ⊢ levAts L lv := by
  unfold wire
  iintro ⟨-, -, H⟩
  iexact H

theorem src_prv (c : Dev nD) (h : Fin 3) : src (prv c) (up h) = src c h.succ := by revert c h; decide

/-! ## The programs of a hop -/

abbrev chOf (t : Bool) (o : Fin 3 → Nat) (i : ∀ a, o a + S1x1024x1024.size a ≤ S4x1024x1024.size a) : Memref sig .tc .vmem S1024x1024 .bf16 :=
  ((chM t).slice (Rect.unit (s := S4x1024x1024) o S1x1024x1024.size i) (fun _ => rfl)).squeeze S1024x1024 squeezes_S1x1024x1024_S1024x1024

/-- Start the copy of a slot to device `n`; -/
def sendP (t : Bool) (h : Fin 3) (n : Dev nD) (o : Fin 3 → Nat) (i : ∀ a, o a + S1x1024x1024.size a ≤ S4x1024x1024.size a) (w w' : (chOf t o i).view.WordExact)
    (hs : DmaTarget.Typed (nD := nD) (τ := τ) (p := .tc) .vmem (.dma (recvS t h)) (.remote (Dev.tc n) (chOf t o i) (.dma (sendS t h)))) :
    Prog (TpuEff nD τ sig (Elt F) Λ₀ .tc) PUnit.{1} :=
  Prog.lift (.enqueueDma (chOf t o i) (.remote (Dev.tc n) (chOf t o i) (.dma (sendS t h))) (.dma (recvS t h)) w w' hs)

/-- wait for the end of the sending and for the landing of the hop, -/
def waitP (t : Bool) (h : Fin 3) (o : Fin 3 → Nat) (i : ∀ a, o a + S1x1024x1024.size a ≤ S4x1024x1024.size a) (w : (chOf t o i).view.WordExact) :
    Prog (TpuEff nD τ sig (Elt F) Λ₀ .tc) PUnit.{1} := do
  Prog.lift (.waitDma2 (sendS t h) (chOf t o i) (chOf t o i) w w)
  Prog.lift (.waitDma2 (recvS t h) (chOf t o i) (chOf t o i) w w)

/-- and the computation with the chunk held in the slot at offsets `o`. -/
def chunkP (xb : FVec F S1024x1024 .bf16) (o : Fin 3 → Nat) (i : ∀ a, o a + S1x1024x1024.size a ≤ S4x1024x1024.size a)
    (p8 : (qM.access (Rect.unit (s := S1024x1024) ![0, 0] S1024x1024.size inb_S1024x1024_S1024x1024_0_0)).Stores Finset.univ)
    (lp : Prog (TpuEff nD τ sig (Elt F) Λ₀ .tc) Unit) : Prog (TpuEff nD τ sig (Elt F) Λ₀ .tc) PUnit.{1} := do
  let wq : Vec F S1x1024x1024 .bf16 ← Prog.lift (.load (chM false) (Rect.unit (s := S4x1024x1024) o S1x1024x1024.size i).toLoadRect (View.loadsAt_vmem h_S1x1024x1024))
  let _ : Vec F S1024x1024 .bf16 ← Prog.lift (.load qM (Rect.unit (s := S1024x1024) ![0, 0] S1024x1024.size inb_S1024x1024_S1024x1024_0_0).toLoadRect (View.loadsAt_vmem h_S1024x1024))
  Prog.lift (.store qM (Rect.unit (s := S1024x1024) ![0, 0] S1024x1024.size inb_S1024x1024_S1024x1024_0_0) (k0_pay14 xb wq) Finset.univ p8 (.inl rfl))
  lp
  let a : Vec F S1024x1024 .f32 ← Prog.lift (.load outM (Rect.unit (s := S1024x1024) ![0, 0] S1024x1024.size inb_S1024x1024_S1024x1024_0_0).toLoadRect (View.loadsAt_vmem h_S1024x1024))
  let cx : Vec F S1024x1024 .bf16 ← Prog.lift (.load ctxM (Rect.unit (s := S1024x1024) ![0, 0] S1024x1024.size inb_S1024x1024_S1024x1024_0_0).toLoadRect (View.loadsAt_vmem h_S1024x1024))
  let wo : Vec F S1x1024x1024 .bf16 ← Prog.lift (.load (chM true) (Rect.unit (s := S4x1024x1024) o S1x1024x1024.size i).toLoadRect (View.loadsAt_vmem h_S1x1024x1024))
  let _ : Vec F S1024x1024 .f32 ← Prog.lift (.load outM (Rect.unit (s := S1024x1024) ![0, 0] S1024x1024.size inb_S1024x1024_S1024x1024_0_0).toLoadRect (View.loadsAt_vmem h_S1024x1024))
  Prog.lift (.store outM (Rect.unit (s := S1024x1024) ![0, 0] S1024x1024.size inb_S1024x1024_S1024x1024_0_0) (k0_pay16 a cx wo) Finset.univ (View.stores_vmem_bits_univ h_S1024x1024 rfl) (.inl rfl))

/-! ## Contents -/

/-- The device's rows, rounded; -/
def xb (c : Dev nD) : FVec F S1024x1024 .bf16 := k0_pay13 (xs m ρ c)
/-- the queries of chunk `j`; -/
def qch (c : Dev nD) (j : Fin 4) : (cc0_scratch2 : Ref sig .tc).ty.Contents (Elt F) := k0_pay14 (xb m ρ c) (pay m ρ false j)
/-- the output after chunk `j`, having been `a`. -/
def outS (c : Dev nD) (b : (cc0_scratch4 : Ref sig .tc).ty.Contents (Elt F)) (a : (cc0_stg3_0 : Ref sig .tc).ty.Contents (Elt F)) (j : Fin 4) :
    (cc0_stg3_0 : Ref sig .tc).ty.Contents (Elt F) :=
  k0_pay16 a (ctxv m c (qch m ρ c j) b j) (pay m ρ true j)

/-! ## The steps -/

variable {α : Type}

omit [FloatOps F] [Named F] in
/-- What a landing writes is what was read at the source, on the slot's elements. -/
theorem landed_slot (t : Bool) (j : Fin 4) (fd g : (slot t j).view.ty.Contents (Elt F)) :
    ∀ i ∈ (slot t j).view.set, (slot t j).view.write (Elt F) fd ((slot t j).view.read (Elt F) g) Finset.univ i = g i := by
  intro i hi
  obtain ⟨x, -, rfl⟩ := Finset.mem_map.mp hi
  rw [View.write_emb_of_mem _ _ (Finset.mem_univ x)]
  cases t <;> rfl

theorem wp_send_slot (K : Dev nD × CK → ℕ) (t : Bool) (h : Fin 3) (c n : Dev nD) (hn : n = nxt c) (O : CellTallies nD τ sig Unit) (W : Waits sig Unit)
    {hsc : (slot t (src c (up h)) : Memref sig (Dev.tc n : Thread nD τ).2.kind .vmem _ _).view.ref.isScScratch = false}
    {hsrc hdst} {hsem : DmaTarget.Typed .vmem (.dma (recvS t h)) (.remote (Dev.tc n : Thread nD τ) (slot t (src c (up h)) : Memref sig (Dev.tc n : Thread nD τ).2.kind .vmem _ _) (.dma (sendS t h)) hsc)}
    {k : PUnit.{1} → Prog (TpuEff nD τ sig (Elt F) Λ₀ .tc) α} {Q : α → sProp 𝕄}
    (fd : Buf (Elt F) ((slot t (src c (up h))).view.loc (n : Thread nD τ))) :
    iprop(cellInv ER (ringRd m ρ) (K (c, some (false, t, h))) (sendCell t h c) ∗ cellInv ER (ringRd m ρ) (K (n, some (true, t, h))) (recvCell t h n)
        ∗ ((slot t (src c (up h))).view.loc (c : Thread nD τ) ↦[(slot t (src c (up h))).view.set]{halfL} chb m ρ t (src c (up h)))
        ∗ ((slot t (src c (up h))).view.loc (n : Thread nD τ) ↦[(slot t (src c (up h))).view.set]{fullShare} fd)
        ∗ owes (c : Thread nD τ) (O + recvT c t h) W
        ∗ dutyTok ER (sendCell t h c) 0 false ∗ reached ER (sendCell t h c) 0 ∗ dutyTok ER (recvCell t h n) 0 false ∗ reached ER (recvCell t h n) 0)
      ⊢ iprop(((cred (tallyAt (sendCell t h c) () (NB t)) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot t (src c (up h))) (.remote (Dev.tc n : Thread nD τ) (slot t (src c (up h)) : Memref sig (Dev.tc n : Thread nD τ).2.kind .vmem _ _) (.dma (sendS t h)) hsc)
                (.dma (recvS t h)) hsrc hdst hsem) k) Q) := by
  subst hn
  exact Rounds.wp_send_pointsTo 𝒱₀ ER (ringRd m ρ) (c : Thread nD τ) none (κ₁ := K (c, some (false, t, h))) (κ₂ := K (nxt c, some (true, t, h)))
    (r₁ := 0) (r₂ := 0) (d₁ := false) (d₂ := false) (fd := fd)
    (by rw [duties_send]; exact Finset.mem_singleton_self _) (by rw [duties_recv]; exact Finset.mem_singleton_self _)
    () () (NB t) rfl (amount_send m ρ c t h false) (amount_recv m ρ (nxt c) t h false) O rfl (W := W)
    (by rw [payload_send]; exact BI.Entails.refl _)
    (by rw [payload_recv]; unfold recvPay slotAt; rw [prv_nxt]; exact Entails.of_eq (pointsTo_congr (landed_slot t _ fd _)))

/-- What a device has of the copies of a hop before it, -/
def HopTok (t : Bool) (h : Fin 3) (c : Dev nD) : sProp 𝕄 :=
  iprop((atPos ER (sendCell t h c) 0 ∅ 0 ∗ atPos ER (recvCell t h c) 0 ∅ 0 ∗ cred (tallyAt (recvCell t h c) () (NB t)))
    ∗ dutyTok ER (sendCell t h c) 0 false ∗ dutyTok ER (recvCell t h (nxt c)) 0 false)
/-- while they are under way -/
def HopMid (t : Bool) (h : Fin 3) (c : Dev nD) : sProp 𝕄 :=
  iprop((atPos ER (sendCell t h c) 0 ∅ 0 ∗ atPos ER (recvCell t h c) 0 ∅ 0 ∗ cred (tallyAt (recvCell t h c) () (NB t)))
    ∗ cred (tallyAt (sendCell t h c) () (NB t)))
/-- and after. -/
def HopDone (t : Bool) (h : Fin 3) (c : Dev nD) : sProp 𝕄 := iprop(semVal (sendCell t h c) 0 ∗ semVal (recvCell t h c) 0)

theorem send_spec (K : Dev nD × CK → ℕ) (t : Bool) (h : Fin 3) (c n : Dev nD) (hn : n = nxt c) (O : CellTallies nD τ sig Unit)
    {o : Fin 3 → Nat} {i w w' hs} (ho : o = ![(src c (up h)).val, 0, 0]) :
    iprop(wire m ρ K ∗ slotAt m ρ t c (src c (up h)) halfL ∗ slotAny (F := F) t (nxt c) (src c (up h)) ∗ oweAny c (O + recvT c t h) ∗ HopTok t h c)
      ⊢ wp frame (wpE (defs₀ (F := F)) 𝒱₀ (c : Thread nD τ) none) Set.univ (sendP t h n o i w w' hs) (fun _ => iprop(oweAny c O ∗ HopMid t h c)) := by
  subst hn ho
  unfold sendP HopTok HopMid slotAny oweAny
  simp only [Prog.lift, Prog.bind_op, Prog.bind_ret, Prog.pure_eq_ret]
  iintro ⟨#Hw, Hs, ⟨%fd, Hd⟩, ⟨%W, HO⟩, Hpos, Ht, Ht'⟩
  ihave #Hi1 := (wire_inv m ρ K (c, some (false, t, h))) $$ Hw
  ihave #Hi2 := (wire_inv m ρ K (nxt c, some (true, t, h))) $$ Hw
  ihave #Hr1 := (wire_reached m ρ K (c, some (false, t, h))) $$ Hw
  ihave #Hr2 := (wire_reached m ρ K (nxt c, some (true, t, h))) $$ Hw
  iapply (wp_send_slot m ρ K t h c (nxt c) rfl O W fd) $$ [Hs Hd HO Ht Ht']
  · isplitr; · iexact Hi1
    isplitr; · iexact Hi2
    isplitl [Hs]; · unfold slotAt; iexact Hs
    isplitl [Hd]; · iexact Hd
    isplitl [HO]; · iexact HO
    isplitl [Ht]; · iexact Ht
    isplitr; · iexact Hr1
    isplitl [Ht']; · iexact Ht'
    iexact Hr2
  iintro ⟨Hc, HO⟩
  rw [wp_ret]
  imodintro
  isplitl [HO]; · iexists _; iexact HO
  isplitl [Hpos]; · iexact Hpos
  iexact Hc

theorem wait_spec (K : Dev nD × CK → ℕ) (t : Bool) (h : Fin 3) (c : Dev nD) {o : Fin 3 → Nat} {i w} :
    iprop(wire m ρ K ∗ oweAny c (owe c h.succ) ∗ HopMid t h c)
      ⊢ wp frame (wpE (defs₀ (F := F)) 𝒱₀ (c : Thread nD τ) none) Set.univ (waitP t h o i w)
          (fun _ => iprop(oweAny c (owe c h.succ) ∗ HopDone t h c ∗ slotAt m ρ t c (src c (up h)) halfL ∗ slotAt m ρ t c (src c h.succ) fullShare)) := by
  have hN : (chOf t o i).view.dmaCredit = NB t := rfl
  unfold waitP HopMid HopDone oweAny
  simp only [Prog.lift, Prog.bind_op, Prog.bind_ret, Prog.pure_eq_ret]
  iintro ⟨#Hw, ⟨%W, HO⟩, ⟨Ha1, Ha2, Hc2⟩, Hc1⟩
  ihave #Hi1 := (wire_inv m ρ K (c, some (false, t, h))) $$ Hw
  ihave #Hi2 := (wire_inv m ρ K (c, some (true, t, h))) $$ Hw
  ihave #Hlv := (wire_lev m ρ K) $$ Hw
  iapply (Rounds.wp_wait_rest_token 𝒱₀ ER (ringRd m ρ) (c : Thread nD τ) none (κ := K (c, some (false, t, h))) (sm := .dma (sendS t h)) (k' := NB t)
      (fun Q => hN ▸ wpE_waitDma2_eq (dst := chOf t o i) (hdst := w) (src := chOf t o i) (hsrc := w) 𝒱₀ (c : Thread nD τ) none Set.univ Q) (Set.mem_univ _) () (O := owe c h.succ) (W := W) (R := 0) (m := 0) (T := ∅)
      (by rw [Nat.zero_add, expect_send])) $$ [Hc1 HO Ha1]
  · isplitr; · iexact Hi1
    isplitl [Hc1]; · iexact Hc1
    isplitl [HO]; · iexact HO
    isplitr
    · iapply (mayWait_owe c (.dma (sendS t h)) h.succ (by rw [lv_send]; omega)) $$ Hlv
    iexact Ha1
  iintro ⟨HO, Ha1, -, Hpay⟩
  ihave Hp1 := (Entails.of_eq (rest_send m ρ c t h)) $$ Hpay
  imod (Rounds.cell_close ER (ringRd m ρ) (Set.mem_univ (K (c, some (false, t, h)))) (fun h => h) (R := 0 + 1) (duties_later m ρ (sendCell t h c))) $$ [Ha1] with Hz1
  · isplitr; · iexact Hi1
    iexact Ha1
  iapply (Rounds.wp_wait_rest_token 𝒱₀ ER (ringRd m ρ) (c : Thread nD τ) none (κ := K (c, some (true, t, h))) (sm := .dma (recvS t h)) (k' := NB t)
      (fun Q => hN ▸ wpE_waitDma2_eq (dst := chOf t o i) (hdst := w) (src := chOf t o i) (hsrc := w) 𝒱₀ (c : Thread nD τ) none Set.univ Q) (Set.mem_univ _) () (O := owe c h.succ) (R := 0) (m := 0) (T := ∅)
      (by rw [Nat.zero_add, expect_recv])) $$ [Hc2 HO Ha2]
  · isplitr; · iexact Hi2
    isplitl [Hc2]; · iexact Hc2
    isplitl [HO]; · iexact HO
    isplitr
    · iapply (mayWait_owe c (.dma (recvS t h)) h.succ (by rw [lv_recv]; show 2 + h.val < 2 + (h.val + 1); omega)) $$ Hlv
    iexact Ha2
  iintro ⟨HO, Ha2, -, Hpay⟩
  ihave Hp2 := (Entails.of_eq (rest_recv m ρ c t h)) $$ Hpay
  imod (Rounds.cell_close ER (ringRd m ρ) (Set.mem_univ (K (c, some (true, t, h)))) (fun h => h) (R := 0 + 1) (duties_later m ρ (recvCell t h c))) $$ [Ha2] with Hz2
  · isplitr; · iexact Hi2
    iexact Ha2
  rw [wp_ret]
  imodintro
  isplitl [HO]; · iexists _; iexact HO
  isplitl [Hz1 Hz2]
  · isplitl [Hz1] <;> iassumption
  isplitl [Hp1]; · unfold sendPay; iexact Hp1
  unfold recvPay
  rw [src_prv]
  iexact Hp2

theorem chunk_spec (c : Dev nD) (j : Fin 4) (nx : Option (Fin 4)) (O : CellTallies nD τ sig Unit) (q : PosShare TreeShare)
    (b : (cc0_scratch4 : Ref sig .tc).ty.Contents (Elt F)) (a : (cc0_stg3_0 : Ref sig .tc).ty.Contents (Elt F))
    {lp : Prog (TpuEff nD τ sig (Elt F) Λ₀ .tc) Unit}
    (hlp : ∀ qv f, iprop(levAts L lv ∗ St m c j nx 0 ∗ oweAny c O
        ∗ ((c : Thread nD τ).loc cc0_scratch2 ↦{fullShare} qv) ∗ ((c : Thread nD τ).loc cc0_scratch4 ↦{fullShare} b) ∗ ((c : Thread nD τ).loc cc0_scratch3 ↦{fullShare} f))
      ⊢ wp frame (wpE (defs₀ (F := F)) 𝒱₀ (c : Thread nD τ) none) Set.univ lp
          (fun _ => iprop(St m c j nx 8 ∗ oweAny c O
            ∗ ((c : Thread nD τ).loc cc0_scratch2 ↦{fullShare} qv) ∗ ((c : Thread nD τ).loc cc0_scratch4 ↦{fullShare} b)
            ∗ ((c : Thread nD τ).loc cc0_scratch3 ↦{fullShare} ctxv m c qv b j))))
    {o : Fin 3 → Nat} {i p8} (ho : o = ![j.val, 0, 0]) :
    iprop(levAts L lv ∗ St m c j nx 0 ∗ oweAny c O ∗ (∃ f, (c : Thread nD τ).loc cc0_scratch2 ↦{fullShare} f)
        ∗ ((c : Thread nD τ).loc cc0_scratch4 ↦{fullShare} b) ∗ (∃ f, (c : Thread nD τ).loc cc0_scratch3 ↦{fullShare} f)
        ∗ ((c : Thread nD τ).loc cc0_stg3_0 ↦{fullShare} a) ∗ slotAt m ρ false c j q ∗ slotAt m ρ true c j q)
      ⊢ wp frame (wpE (defs₀ (F := F)) 𝒱₀ (c : Thread nD τ) none) Set.univ (chunkP (xb m ρ c) o i p8 lp)
          (fun _ => iprop(St m c j nx 8 ∗ oweAny c O ∗ (∃ f, (c : Thread nD τ).loc cc0_scratch2 ↦{fullShare} f)
            ∗ ((c : Thread nD τ).loc cc0_scratch4 ↦{fullShare} b) ∗ (∃ f, (c : Thread nD τ).loc cc0_scratch3 ↦{fullShare} f)
            ∗ ((c : Thread nD τ).loc cc0_stg3_0 ↦{fullShare} outS m ρ c b a j) ∗ slotAt m ρ false c j q ∗ slotAt m ρ true c j q)) := by
  subst ho
  unfold chunkP slotAt
  simp only [Prog.lift, Prog.bind_op, Prog.bind_ret, Prog.pure_eq_ret]
  iintro ⟨#Hlv, HSt, HO, ⟨%fq, Hq⟩, Hb, ⟨%fc, Hctx⟩, Ha, Hsq, Hso⟩
  iapply (wp_load_rect 𝒱₀ (c : Thread nD τ) none Set.univ (m := chM false) (r := slotRect j) (slot_set false j).symm.subset) $$ Hsq; iintro Hsq
  rw [show ((chM false).access (slotRect j)).read (Elt F) (chb m ρ false j) = pay m ρ false j from read_slot m ρ false j]
  iapply (wp_load 𝒱₀ (c : Thread nD τ) none Set.univ (m := qM) (Finset.subset_univ _)) $$ Hq; iintro Hq
  iapply (wp_store 𝒱₀ (c : Thread nD τ) none Set.univ (m := qM) (r := Rect.unit (s := S1024x1024) ![0, 0] S1024x1024.size inb_S1024x1024_S1024x1024_0_0) (Mk := Finset.univ) (Finset.subset_univ _)) $$ Hq; iintro Hq
  have hq : (qM.access (Rect.unit (s := S1024x1024) ![0, 0] S1024x1024.size inb_S1024x1024_S1024x1024_0_0)).write (Elt F) fq (k0_pay14 (xb m ρ c) (pay m ρ false j)) Finset.univ
      = qch m ρ c j := Memref.write_access_unit_zero_univ (Elt F) cc0_scratch2 hz2 _ fq _
  rw [hq]
  rw [wp_bind]
  iapply wp_wand $$ [HSt HO Hq Hb Hctx]
  · iapply (hlp (qch m ρ c j) fc)
    isplitr; · iexact Hlv
    isplitl [HSt]; · iexact HSt
    isplitl [HO]; · iexact HO
    isplitl [Hq]; · iexact Hq
    isplitl [Hb]; · iexact Hb
    iexact Hctx
  iintro %_ ⟨HSt, HO, Hq, Hb, Hctx⟩
  iapply (wp_load 𝒱₀ (c : Thread nD τ) none Set.univ (m := outM) (Finset.subset_univ _)) $$ Ha; iintro Ha
  iapply (wp_load 𝒱₀ (c : Thread nD τ) none Set.univ (m := ctxM) (Finset.subset_univ _)) $$ Hctx; iintro Hctx
  iapply (wp_load_rect 𝒱₀ (c : Thread nD τ) none Set.univ (m := chM true) (r := slotRect j) (slot_set true j).symm.subset) $$ Hso; iintro Hso
  rw [show ((chM true).access (slotRect j)).read (Elt F) (chb m ρ true j) = pay m ρ true j from read_slot m ρ true j]
  iapply (wp_load 𝒱₀ (c : Thread nD τ) none Set.univ (m := outM) (Finset.subset_univ _)) $$ Ha; iintro Ha
  iapply (wp_store 𝒱₀ (c : Thread nD τ) none Set.univ (m := outM) (r := Rect.unit (s := S1024x1024) ![0, 0] S1024x1024.size inb_S1024x1024_S1024x1024_0_0) (Mk := Finset.univ) (Finset.subset_univ _)) $$ Ha; iintro Ha
  have h1 : outM.view.readAt (Elt F) (Rect.unit (s := S1024x1024) ![0, 0] S1024x1024.size inb_S1024x1024_S1024x1024_0_0).toLoadRect a = a :=
    Memref.readAt_unit_zero (Elt F) cc0_stg3_0 hz2 _ a
  have h2 : ctxM.view.readAt (Elt F) (Rect.unit (s := S1024x1024) ![0, 0] S1024x1024.size inb_S1024x1024_S1024x1024_0_0).toLoadRect (ctxv m c (qch m ρ c j) b j) = ctxv m c (qch m ρ c j) b j :=
    Memref.readAt_unit_zero (Elt F) cc0_scratch3 hz2 _ _
  have h3 : (outM.access (Rect.unit (s := S1024x1024) ![0, 0] S1024x1024.size inb_S1024x1024_S1024x1024_0_0)).write (Elt F) a (k0_pay16 a (ctxv m c (qch m ρ c j) b j) (pay m ρ true j)) Finset.univ
      = outS m ρ c b a j := Memref.write_access_unit_zero_univ (Elt F) cc0_stg3_0 hz2 _ a _
  rw [h1, h2, h3]
  rw [wp_ret]
  imodintro
  isplitl [HSt]; · iexact HSt
  isplitl [HO]; · iexact HO
  isplitl [Hq]; · iexists _; iexact Hq
  isplitl [Hb]; · iexact Hb
  isplitl [Hctx]; · iexists _; iexact Hctx
  isplitl [Ha]; · iexact Ha
  isplitl [Hsq]; · iexact Hsq
  iexact Hso

/-! ## The hop -/

/-- The chunk after, of the copies' point of view: the loop has its first head in flight already. -/
theorem St_next (c : Dev nD) (j j' : Fin 4) (nx : Option (Fin 4)) : St m c j (some j') 8 ⊢ St m c j' nx 0 := by
  unfold St
  rw [dif_neg (by decide), dif_pos (by decide)]
  exact .rfl

/-- What carries over from chunk to chunk. -/
def Carry (c : Dev nD) (b : (cc0_scratch4 : Ref sig .tc).ty.Contents (Elt F)) (a : (cc0_stg3_0 : Ref sig .tc).ty.Contents (Elt F)) : sProp 𝕄 :=
  iprop((∃ f, (c : Thread nD τ).loc cc0_scratch2 ↦{fullShare} f)
        ∗ ((c : Thread nD τ).loc cc0_scratch4 ↦{fullShare} b) ∗ (∃ f, (c : Thread nD τ).loc cc0_scratch3 ↦{fullShare} f)
        ∗ ((c : Thread nD τ).loc cc0_stg3_0 ↦{fullShare} a))

/-- Hop `h` and the chunk computed meanwhile. -/
def hopP (h : Fin 3) (n n' : Dev nD) (x : FVec F S1024x1024 .bf16) (o : Fin 3 → Nat) (i : ∀ a, o a + S1x1024x1024.size a ≤ S4x1024x1024.size a)
    (o' : Fin 3 → Nat) (i' : ∀ a, o' a + S1x1024x1024.size a ≤ S4x1024x1024.size a)
    (w : (chOf false o i).view.WordExact) (w' : (chOf true o i).view.WordExact)
    (hs : DmaTarget.Typed (nD := nD) (τ := τ) (p := .tc) .vmem (.dma (recvS false h)) (.remote (Dev.tc n) (chOf false o i) (.dma (sendS false h))))
    (hs' : DmaTarget.Typed (nD := nD) (τ := τ) (p := .tc) .vmem (.dma (recvS true h)) (.remote (Dev.tc n') (chOf true o i) (.dma (sendS true h))))
    (p8 : (qM.access (Rect.unit (s := S1024x1024) ![0, 0] S1024x1024.size inb_S1024x1024_S1024x1024_0_0)).Stores Finset.univ)
    (lp : Prog (TpuEff nD τ sig (Elt F) Λ₀ .tc) Unit) : Prog (TpuEff nD τ sig (Elt F) Λ₀ .tc) PUnit.{1} := do
  sendP false h n o i w w hs
  sendP true h n' o i w' w' hs'
  chunkP x o' i' p8 lp
  waitP false h o i w
  waitP true h o i w'

theorem hop_spec (K : Dev nD × CK → ℕ) (c : Dev nD) (h : Fin 3) (n n' : Dev nD) (hn : n = nxt c) (hn' : n' = nxt c) (nx : Option (Fin 4))
    (b : (cc0_scratch4 : Ref sig .tc).ty.Contents (Elt F)) (a : (cc0_stg3_0 : Ref sig .tc).ty.Contents (Elt F))
    {lp : Prog (TpuEff nD τ sig (Elt F) Λ₀ .tc) Unit}
    (hlp : ∀ qv f, iprop(levAts L lv ∗ St m c (src c (up h)) (some (src c h.succ)) 0 ∗ oweAny c (owe c h.succ)
        ∗ ((c : Thread nD τ).loc cc0_scratch2 ↦{fullShare} qv) ∗ ((c : Thread nD τ).loc cc0_scratch4 ↦{fullShare} b) ∗ ((c : Thread nD τ).loc cc0_scratch3 ↦{fullShare} f))
      ⊢ wp frame (wpE (defs₀ (F := F)) 𝒱₀ (c : Thread nD τ) none) Set.univ lp
          (fun _ => iprop(St m c (src c (up h)) (some (src c h.succ)) 8 ∗ oweAny c (owe c h.succ)
            ∗ ((c : Thread nD τ).loc cc0_scratch2 ↦{fullShare} qv) ∗ ((c : Thread nD τ).loc cc0_scratch4 ↦{fullShare} b)
            ∗ ((c : Thread nD τ).loc cc0_scratch3 ↦{fullShare} ctxv m c qv b (src c (up h))))))
    {o o' : Fin 3 → Nat} {i i' w w' hs hs' p8} (ho : o = ![(src c (up h)).val, 0, 0]) (ho' : o' = ![(src c (up h)).val, 0, 0]) :
    iprop(wire m ρ K ∗ St m c (src c (up h)) (some (src c h.succ)) 0 ∗ oweAny c (owe c (up h)) ∗ Carry c b a
        ∗ (slotAt m ρ false c (src c (up h)) fullShare ∗ slotAt m ρ true c (src c (up h)) fullShare)
        ∗ (slotAny (F := F) false (nxt c) (src c (up h)) ∗ slotAny (F := F) true (nxt c) (src c (up h)))
        ∗ HopTok false h c ∗ HopTok true h c)
      ⊢ wp frame (wpE (defs₀ (F := F)) 𝒱₀ (c : Thread nD τ) none) Set.univ (hopP h n n' (xb m ρ c) o i o' i' w w' hs hs' p8 lp)
          (fun _ => iprop(St m c (src c h.succ) nx 0 ∗ oweAny c (owe c h.succ) ∗ Carry c b (outS m ρ c b a (src c (up h)))
            ∗ (slotAt m ρ false c (src c h.succ) fullShare ∗ slotAt m ρ true c (src c h.succ) fullShare)
            ∗ (slotAt m ρ false c (src c (up h)) fullShare ∗ slotAt m ρ true c (src c (up h)) fullShare)
            ∗ HopDone false h c ∗ HopDone true h c)) := by
  unfold hopP Carry
  iintro ⟨#Hw, HSt, HO, ⟨Hq, Hb, Hctx, Ha⟩, ⟨Hs, Hs'⟩, ⟨Hd, Hd'⟩, Ht, Ht'⟩
  ihave Hh := (slotAt_split m ρ false c (src c (up h))).1 $$ Hs
  icases Hh with ⟨Hl, Hr⟩
  ihave Hh := (slotAt_split m ρ true c (src c (up h))).1 $$ Hs'
  icases Hh with ⟨Hl', Hr'⟩
  ihave #Hlv := (wire_lev m ρ K) $$ Hw
  rw [owe_succ]
  rw [wp_bind]
  iapply wp_wand $$ [Hl Hd HO Ht]
  · iapply (send_spec m ρ K false h c n hn (owe c h.succ + recvT c true h) ho)
    isplitr; · iexact Hw
    isplitl [Hl]; · iexact Hl
    isplitl [Hd]; · iexact Hd
    isplitl [HO]; · iexact HO
    iexact Ht
  iintro %_ ⟨HO, Ht⟩
  rw [wp_bind]
  iapply wp_wand $$ [Hl' Hd' HO Ht']
  · iapply (send_spec m ρ K true h c n' hn' (owe c h.succ) ho)
    isplitr; · iexact Hw
    isplitl [Hl']; · iexact Hl'
    isplitl [Hd']; · iexact Hd'
    isplitl [HO]; · iexact HO
    iexact Ht'
  iintro %_ ⟨HO, Ht'⟩
  rw [wp_bind]
  iapply wp_wand $$ [HSt HO Hq Hb Hctx Ha Hr Hr']
  · iapply (chunk_spec m ρ c (src c (up h)) (some (src c h.succ)) (owe c h.succ) halfR b a hlp ho')
    isplitr; · iexact Hlv
    isplitl [HSt]; · iexact HSt
    isplitl [HO]; · iexact HO
    isplitl [Hq]; · iexact Hq
    isplitl [Hb]; · iexact Hb
    isplitl [Hctx]; · iexact Hctx
    isplitl [Ha]; · iexact Ha
    isplitl [Hr] <;> iassumption
  iintro %_ ⟨HSt, HO, Hq, Hb, Hctx, Ha, Hr, Hr'⟩
  rw [wp_bind]
  iapply wp_wand $$ [HO Ht]
  · iapply (wait_spec m ρ K false h c)
    isplitr; · iexact Hw
    isplitl [HO] <;> iassumption
  iintro %_ ⟨HO, Hz, Hl, Hn⟩
  iapply wp_wand $$ [HO Ht']
  · iapply (wait_spec m ρ K true h c)
    isplitr; · iexact Hw
    isplitl [HO] <;> iassumption
  iintro %_ ⟨HO, Hz', Hl', Hn'⟩
  isplitl [HSt]; · iapply (St_next m c (src c (up h)) (src c h.succ) nx) $$ HSt
  isplitl [HO]; · iexact HO
  isplitl [Hq Hb Hctx Ha]
  · isplitl [Hq]; · iexact Hq
    isplitl [Hb]; · iexact Hb
    isplitl [Hctx]; · iexact Hctx
    iexact Ha
  isplitl [Hn Hn']
  · isplitl [Hn] <;> iassumption
  isplitl [Hl Hr Hl' Hr']
  · isplitl [Hl Hr]
    · iapply (slotAt_split m ρ false c (src c (up h))).2
      isplitl [Hl] <;> iassumption
    · iapply (slotAt_split m ρ true c (src c (up h))).2
      isplitl [Hl'] <;> iassumption
  isplitl [Hz] <;> iassumption

end Cert.KernelIdeal.RingAttn

end
-- ==== Proof.KernelIdealBody.lean ====
/-
The ring all-gather attention kernel, part 5: the body as a sequence of steps, from the start of the first head's
copies to the last chunk.
-/
module

public import proofs.«01_k».proof.Proof.KernelIdealHop

@[expose] public section

noncomputable section

namespace Cert.KernelIdeal.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The steps -/

/-- The device's logical id as the kernel computes with it. -/
def devW (d : Dev nD) : BitVec 32 := Scalar.remsi (Scalar.divsi (Dev.word d) 1#32) 4#32
/-- The additive mask of the device's rows. -/
def biasv (d : Dev nD) : (cc0_scratch4 : Ref sig .tc).ty.Contents (Elt F) :=
  k0_pay11 (F := F) (iota .tc S1024x1024 32 [1] iota_S1024x1024_d1_w32) (k0_pay8 (devW d)) (k0_pay9 (devW d)) (k0_pay10 (devW d))

/-- The handshake with both neighbours; -/
def barP (d0 : Dev nD) : Prog (TpuEff nD τ sig (Elt F) Λ₀ .tc) PUnit.{1} := do
  semSignalWord (⟨k0_dev1 d0, k0_dev1_lt d0⟩ : Dev nD) barS 1#32
  semSignalWord (⟨k0_dev2 d0, k0_dev2_lt d0⟩ : Dev nD) barS 1#32
  semWaitWord barS 2#32

/-- a block of a weight rounded into its slot. -/
def putP (t : Bool) (M : Memref sig .tc .vmem S1024x1024 .f32) (pl : Vec F S1024x1024 .f32 → Vec F S1x1024x1024 .bf16) (o : Fin 3 → Nat)
    (i : ∀ a, o a + S1x1024x1024.size a ≤ S4x1024x1024.size a) (p : ((chM t).access (Rect.unit (s := S4x1024x1024) o S1x1024x1024.size i)).Stores Finset.univ) :
    Prog (TpuEff nD τ sig (Elt F) Λ₀ .tc) PUnit.{1} := do
  let w : Vec F S1024x1024 .f32 ← Prog.lift (.load M (Rect.unit (s := S1024x1024) ![0, 0] S1024x1024.size inb_S1024x1024_S1024x1024_0_0).toLoadRect (View.loadsAt_vmem h_S1024x1024))
  let _ : Vec F S1x1024x1024 .bf16 ← Prog.lift (.load (chM t) (Rect.unit (s := S4x1024x1024) o S1x1024x1024.size i).toLoadRect (View.loadsAt_vmem h_S1x1024x1024))
  Prog.lift (.store (chM t) (Rect.unit (s := S4x1024x1024) o S1x1024x1024.size i) (pl w) Finset.univ p (.inl rfl))

/-- The mask, the output zeroed, and the device's rows rounded. -/
def initP (d0 : Dev nD) : Prog (TpuEff nD τ sig (Elt F) Λ₀ .tc) (FVec F S1024x1024 .bf16) := do
  let _ : Vec F S1024x1024 .f32 ← Prog.lift (.load biasM (Rect.unit (s := S1024x1024) ![0, 0] S1024x1024.size inb_S1024x1024_S1024x1024_0_0).toLoadRect (View.loadsAt_vmem h_S1024x1024))
  Prog.lift (.store biasM (Rect.unit (s := S1024x1024) ![0, 0] S1024x1024.size inb_S1024x1024_S1024x1024_0_0) (k0_pay11 (F := F) (iota .tc S1024x1024 32 [1] iota_S1024x1024_d1_w32) (k0_pay8 (devW d0)) (k0_pay9 (devW d0)) (k0_pay10 (devW d0))) Finset.univ (View.stores_vmem_bits_univ h_S1024x1024 rfl) (.inl rfl))
  let _ : Vec F S1024x1024 .f32 ← Prog.lift (.load outM (Rect.unit (s := S1024x1024) ![0, 0] S1024x1024.size inb_S1024x1024_S1024x1024_0_0).toLoadRect (View.loadsAt_vmem h_S1024x1024))
  Prog.lift (.store outM (Rect.unit (s := S1024x1024) ![0, 0] S1024x1024.size inb_S1024x1024_S1024x1024_0_0) (k0_pay12 (F := F)) Finset.univ (View.stores_vmem_bits_univ h_S1024x1024 rfl) (.inl rfl))
  let x : Vec F S1x1024x1024 .f32 ← Prog.lift (.load xM (Rect.unit (s := S1x1024x1024) ![0, 0, 0] S1x1024x1024.size inb_S1x1024x1024_S1x1024x1024_0_0_0).toLoadRect (View.loadsAt_vmem h_S1x1024x1024))
  pure (k0_pay13 x)

section Eqs
variable (harg0 : xM.IsWhole) (harg1 : wqM.IsWhole) (harg2 : (arrM false).IsWhole) (harg3 : (arrM true).IsWhole) (harg4 : woM.IsWhole) (harg5 : outM.IsWhole)
  (harg6 : (chM false).IsWhole) (harg7 : (chM true).IsWhole) (harg8 : qM.IsWhole) (harg9 : ctxM.IsWhole) (harg10 : biasM.IsWhole) (harg11 : (stM false).IsWhole)
  (harg12 : (stM true).IsWhole)

/-- The body after the device has read its id. -/
def bodyP (d0 : Dev nD) : Prog (TpuEff nD τ sig (Elt F) Λ₀ .tc) PUnit.{1} := do
  fetchKV ![0, 0] inb_S2x2_S1x1_0_0 ![0, 0, 0] inb_S2x1024x128_S1x1024x128_0_0_0 (k0_off1 d0) (k0_off1_inb d0) ![0, 1] inb_S2x2_S1x1_0_1
  barP d0
  putP false wqM k0_pay5 (k0_off2 d0) (k0_off2_inb d0) (View.stores_vmem h_S1x1024x1024 (harg6.storeExact_slice rfl _ (k0_off2_packedbf16 d0)) (fun _ => rfl))
  putP true woM k0_pay6 (k0_off2 d0) (k0_off2_inb d0) (View.stores_vmem h_S1x1024x1024 (harg7.storeExact_slice rfl _ (k0_off2_packedbf16 d0)) (fun _ => rfl))
  let x ← initP d0
  hopP 0 (⟨k0_dev3 d0, k0_dev3_lt d0⟩ : Dev nD) (⟨k0_dev4 d0, k0_dev4_lt d0⟩ : Dev nD) x (k0_off3 d0 0#32) (k0_off3_inb d0 0) (k0_off4 d0 0#32) (k0_off4_inb d0 0)
    ((harg6.wordExact_slice rfl _ (k0_off3_wordsbf16 d0 0)).reshape _ _)
    ((harg7.wordExact_slice rfl _ (k0_off3_wordsbf16 d0 0)).reshape _ _)
    ⟨⟨rfl, Or.inl rfl⟩, trivial⟩ ⟨⟨rfl, Or.inl rfl⟩, trivial⟩
    (View.stores_vmem h_S1024x1024 (harg8.storeExact_slice rfl _ packedbf16_S1024x1024_S1024x1024_0_0) (fun _ => rfl))
    (Scf.Loop.for k0_t1_loop k0_t1_ok ⟨⟩ (k0_t1_body (F := F) xM harg0 wqM harg1 (arrM false) harg2 (arrM true) harg3 woM harg4 outM harg5 (chM false) harg6 (chM true) harg7 qM harg8 ctxM harg9 biasM harg10
        (stM false) harg11 (stM true) harg12 cc0_scratch7 cc0_scratch8 cc0_scratch9 cc0_scratch10 cc0_scratch11 d0 x (Scalar.remsi (Scalar.addi (Scalar.subi (devW d0) 0#32) 4#32) 4#32) (Scalar.remsi (Scalar.addi (Scalar.subi (Scalar.subi (devW d0) 0#32) 1#32) 4#32) 4#32)))
  hopP 1 (⟨k0_dev5 d0, k0_dev5_lt d0⟩ : Dev nD) (⟨k0_dev6 d0, k0_dev6_lt d0⟩ : Dev nD) x (k0_off3 d0 1#32) (k0_off3_inb d0 1) (k0_off4 d0 1#32) (k0_off4_inb d0 1)
    ((harg6.wordExact_slice rfl _ (k0_off3_wordsbf16 d0 1)).reshape _ _)
    ((harg7.wordExact_slice rfl _ (k0_off3_wordsbf16 d0 1)).reshape _ _)
    ⟨⟨rfl, Or.inl rfl⟩, trivial⟩ ⟨⟨rfl, Or.inl rfl⟩, trivial⟩
    (View.stores_vmem h_S1024x1024 (harg8.storeExact_slice rfl _ packedbf16_S1024x1024_S1024x1024_0_0) (fun _ => rfl))
    (Scf.Loop.for k0_t2_loop k0_t2_ok ⟨⟩ (k0_t2_body (F := F) xM harg0 wqM harg1 (arrM false) harg2 (arrM true) harg3 woM harg4 outM harg5 (chM false) harg6 (chM true) harg7 qM harg8 ctxM harg9 biasM harg10
        (stM false) harg11 (stM true) harg12 cc0_scratch7 cc0_scratch8 cc0_scratch9 cc0_scratch10 cc0_scratch11 d0 (Scalar.remsi (Scalar.addi (devW d0) 1#32) 4#32) (Scalar.remsi (Scalar.addi (Scalar.subi (devW d0) 1#32) 4#32) 4#32) (Scalar.remsi (Scalar.addi (Scalar.subi (Scalar.subi (devW d0) 1#32) 1#32) 4#32) 4#32) 0#32))
  hopP 2 (⟨k0_dev7 d0, k0_dev7_lt d0⟩ : Dev nD) (⟨k0_dev8 d0, k0_dev8_lt d0⟩ : Dev nD) x (k0_off3 d0 2#32) (k0_off3_inb d0 2) (k0_off4 d0 2#32) (k0_off4_inb d0 2)
    ((harg6.wordExact_slice rfl _ (k0_off3_wordsbf16 d0 2)).reshape _ _)
    ((harg7.wordExact_slice rfl _ (k0_off3_wordsbf16 d0 2)).reshape _ _)
    ⟨⟨rfl, Or.inl rfl⟩, trivial⟩ ⟨⟨rfl, Or.inl rfl⟩, trivial⟩
    (View.stores_vmem h_S1024x1024 (harg8.storeExact_slice rfl _ packedbf16_S1024x1024_S1024x1024_0_0) (fun _ => rfl))
    (Scf.Loop.for k0_t3_loop k0_t3_ok ⟨⟩ (k0_t3_body (F := F) xM harg0 wqM harg1 (arrM false) harg2 (arrM true) harg3 woM harg4 outM harg5 (chM false) harg6 (chM true) harg7 qM harg8 ctxM harg9 biasM harg10
        (stM false) harg11 (stM true) harg12 cc0_scratch7 cc0_scratch8 cc0_scratch9 cc0_scratch10 cc0_scratch11 d0 (Scalar.remsi (Scalar.addi (devW d0) 1#32) 4#32) x (Scalar.remsi (Scalar.addi (Scalar.subi (devW d0) 2#32) 4#32) 4#32) (Scalar.remsi (Scalar.addi (Scalar.subi (Scalar.subi (devW d0) 2#32) 1#32) 4#32) 4#32) 1#32))
  chunkP x (k0_off35 d0) (k0_off35_inb d0) (View.stores_vmem h_S1024x1024 (harg8.storeExact_slice rfl _ packedbf16_S1024x1024_S1024x1024_0_0) (fun _ => rfl))
    (Scf.Loop.for k0_t4_loop k0_t4_ok ⟨⟩ (k0_t4_body (F := F) xM harg0 wqM harg1 (arrM false) harg2 (arrM true) harg3 woM harg4 outM harg5 (chM false) harg6 (chM true) harg7 qM harg8 ctxM harg9 biasM harg10
        (stM false) harg11 (stM true) harg12 cc0_scratch7 cc0_scratch8 cc0_scratch9 cc0_scratch10 cc0_scratch11 d0 (Scalar.remsi (Scalar.addi (devW d0) 1#32) 4#32)))

set_option maxHeartbeats 1600000 in
set_option maxRecDepth 65536 in
theorem body_eq : cc0__body (F := F) xM harg0 wqM harg1 (arrM false) harg2 (arrM true) harg3 woM harg4 outM harg5 (chM false) harg6 (chM true) harg7 qM harg8 ctxM harg9 biasM harg10
        (stM false) harg11 (stM true) harg12 cc0_scratch7 cc0_scratch8 cc0_scratch9 cc0_scratch10 cc0_scratch11
      = (Prog.lift .deviceId : Prog (TpuEff nD τ sig (Elt F) Λ₀ .tc) (Dev nD)) >>= fun d0 => bodyP harg0 harg1 harg2 harg3 harg4 harg5 harg6 harg7 harg8 harg9 harg10 harg11 harg12 d0 := by
  simp only [cc0__body_eq_skeleton, cc0__body_skel, k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton, k0_part14_eq_skeleton, k0_part15_eq_skeleton,
    k0_part5_skel, k0_part6_skel, k0_part7_skel, k0_part8_skel, k0_part9_skel, k0_part10_skel, k0_part11_skel, k0_part12_skel, k0_part13_skel, k0_part14_skel, k0_part15_skel,
    bodyP, fetchKV, barP, putP, initP, hopP, sendP, chunkP, waitP,
    Prog.lift, Prog.bind_op, Prog.bind_ret, Prog.pure_eq_ret, Prog.bind_assoc, semSignalWord, semWaitWord]
  rfl

end Eqs

/-! ## Their specifications -/

theorem bar_spec (K : Dev nD × CK → ℕ) (c : Dev nD) :
    iprop(wire m ρ K ∗ oweAny c (O₀ c) ∗ barPay (F := F) (prv c)
        ∗ (atPos ER (barCell c) 0 ∅ 0 ∗ dutyTok ER (barCell (prv c)) 0 true ∗ dutyTok ER (barCell (nxt c)) 0 false ∗ cred (tallyAt (barCell c) () 2)))
      ⊢ wp frame (wpE (defs₀ (F := F)) 𝒱₀ (c : Thread nD τ) none) Set.univ (barP c)
          (fun _ => iprop(oweAny c (owe c 0) ∗ barPay (F := F) c ∗ semVal (barCell c) 0)) := by
  unfold barP oweAny
  simp only [semSignalWord, semWaitWord, Prog.lift, Prog.bind_op, Prog.bind_ret, Prog.pure_eq_ret]
  simp only [dev1_eq c, dev2_eq c]
  iintro ⟨#Hw, ⟨%W, HO⟩, Hpay, Hat, HtP, HtN, Hc⟩
  ihave #Hi := (wire_inv m ρ K (c, none)) $$ Hw
  ihave #HiP := (wire_inv m ρ K (prv c, none)) $$ Hw
  ihave #HiN := (wire_inv m ρ K (nxt c, none)) $$ Hw
  ihave #HrP := (wire_reached m ρ K (prv c, none)) $$ Hw
  ihave #HrN := (wire_reached m ρ K (nxt c, none)) $$ Hw
  ihave #Hlv := (wire_lev m ρ K) $$ Hw
  iapply (Rounds.wp_signal 𝒱₀ ER (ringRd m ρ) (c : Thread nD τ) none (dst := (prv c : Thread nD τ)) (κ := K (prv c, none))
      (d := true) (by rw [duties_bar]; exact Finset.mem_univ _) ((amount_bar m ρ (prv c) true).trans (by decide)) () (O₁ c) rfl)
    $$ [HO HtP Hpay]
  · isplitr; · iexact HiP
    isplitl [HO]; · iexact HO
    isplitl [HtP]; · iexact HtP
    isplitl [Hpay]; · rw [payload_bar_true]; iexact Hpay
    iexact HrP
  iintro HO
  unfold O₁
  iapply (Rounds.wp_signal 𝒱₀ ER (ringRd m ρ) (c : Thread nD τ) none (dst := (nxt c : Thread nD τ)) (κ := K (nxt c, none))
      (d := false) (by rw [duties_bar]; exact Finset.mem_univ _) ((amount_bar m ρ (nxt c) false).trans (by decide)) () (owe0 c) rfl)
    $$ [HO HtN]
  · isplitr; · iexact HiN
    isplitl [HO]; · iexact HO
    isplitl [HtN]; · iexact HtN
    isplitr; · rw [payload_bar_false]; iempintro
    iexact HrN
  iintro HO
  iapply (Rounds.wp_wait_rest_token 𝒱₀ ER (ringRd m ρ) (c : Thread nD τ) none (κ := K (c, none))
      (wpE_semWait_eq 𝒱₀ (c : Thread nD τ) none Set.univ) (Set.mem_univ _) () (O := owe0 c) (W := W) (R := 0) (m := 0) (T := ∅)
      (by rw [expect_bar]; decide)) $$ [Hc HO Hat]
  · isplitr; · iexact Hi
    isplitl [Hc]; · iexact Hc
    isplitl [HO]; · iexact HO
    isplitr; · iapply (mayWait_owe c (.reg barS) 0 (by rw [lv_bar]; decide)) $$ Hlv
    iexact Hat
  iintro ⟨HO, Hat, -, Hp⟩
  ihave Hp := (Entails.of_eq (rest_bar m ρ c)) $$ Hp
  icases Hp with ⟨-, Hp⟩
  imod (Rounds.cell_close ER (ringRd m ρ) (Set.mem_univ (K (c, none))) (fun h => h) (R := 0 + 1) (duties_later m ρ (barCell c))) $$ [Hat] with Hz
  · isplitr; · iexact Hi
    iexact Hat
  rw [wp_ret]
  imodintro
  isplitl [HO]; · iexists _; iexact HO
  isplitl [Hp]; · iexact Hp
  iexact Hz

/-- A block stored into its slot is the slot filled, whatever it held. -/
theorem stored_slot (t : Bool) (j : Fin 4) (f : (slot t j).view.ty.Contents (Elt F)) (w : Vec F S1x1024x1024 .bf16) (hw : w = pay m ρ t j) :
    ∀ i ∈ (slot t j).view.set, ((chM t).access (slotRect j)).write (Elt F) f w Finset.univ i = chb m ρ t j i := by
  subst hw
  intro i hi
  rw [slot_set] at hi
  obtain ⟨x, -, rfl⟩ := Finset.mem_map.mp hi
  show _ = ((chM t).access (slotRect j)).write (Elt F) _ (pay m ρ t j) Finset.univ (((chM t).access (slotRect j)).emb x)
  rw [View.write_emb_of_mem _ _ (Finset.mem_univ x), View.write_emb_of_mem _ _ (Finset.mem_univ x)]

theorem put_spec (c : Dev nD) (t : Bool) (j : Fin 4) (M : Memref sig .tc .vmem S1024x1024 .f32) (pl : Vec F S1024x1024 .f32 → Vec F S1x1024x1024 .bf16)
    (fM : Buf (Elt F) (M.view.loc (c : Thread nD τ)))
    (hr : pl (M.view.readAt (Elt F) (Rect.unit (s := S1024x1024) ![0, 0] S1024x1024.size inb_S1024x1024_S1024x1024_0_0).toLoadRect fM) = pay m ρ t j)
    {o : Fin 3 → Nat} {i p} (ho : o = ![j.val, 0, 0]) :
    iprop((M.view.loc (c : Thread nD τ) ↦{fullShare} fM) ∗ slotAny (F := F) t c j)
      ⊢ wp frame (wpE (defs₀ (F := F)) 𝒱₀ (c : Thread nD τ) none) Set.univ (putP t M pl o i p)
          (fun _ => iprop((M.view.loc (c : Thread nD τ) ↦{fullShare} fM) ∗ slotAt m ρ t c j fullShare)) := by
  subst ho
  unfold putP slotAny
  simp only [Prog.lift, Prog.bind_op, Prog.bind_ret, Prog.pure_eq_ret]
  iintro ⟨HM, ⟨%f, Hs⟩⟩
  iapply (wp_load 𝒱₀ (c : Thread nD τ) none Set.univ (m := M) (Finset.subset_univ _)) $$ HM; iintro HM
  iapply (wp_load_rect 𝒱₀ (c : Thread nD τ) none Set.univ (m := chM t) (r := slotRect j) (slot_set t j).symm.subset) $$ Hs; iintro Hs
  iapply (wp_store 𝒱₀ (c : Thread nD τ) none Set.univ (m := chM t) (r := slotRect j) (Mk := Finset.univ)
    ((View.setOn_univ _).subset.trans (slot_set t j).symm.subset)) $$ Hs; iintro Hs
  rw [wp_ret]
  imodintro
  isplitl [HM]; · iexact HM
  unfold slotAt
  iapply (Entails.of_eq (pointsTo_congr (stored_slot m ρ t j f _ hr))) $$ Hs

theorem hz3 : (![0, 0, 0] : Fin 3 → Nat) = fun _ => 0 := funext fun a => by fin_cases a <;> rfl

theorem init_spec (c : Dev nD) :
    (iprop((∃ f, (c : Thread nD τ).loc cc0_scratch4 ↦{fullShare} f) ∗ (∃ f, (c : Thread nD τ).loc cc0_stg3_0 ↦{fullShare} f)
        ∗ ((c : Thread nD τ).loc cc0_stg0_0 ↦{fullShare} xs m ρ c)) : sProp 𝕄)
      ⊢ wp frame (wpE (defs₀ (F := F)) 𝒱₀ (c : Thread nD τ) none) Set.univ (initP (F := F) c)
          (fun x : FVec F S1024x1024 .bf16 => iprop(⌜x = xb m ρ c⌝ ∗ ((c : Thread nD τ).loc cc0_scratch4 ↦{fullShare} biasv (F := F) c) ∗ ((c : Thread nD τ).loc cc0_stg3_0 ↦{fullShare} k0_pay12 (F := F))
            ∗ ((c : Thread nD τ).loc cc0_stg0_0 ↦{fullShare} xs m ρ c))) := by
  unfold initP
  simp only [Prog.lift, Prog.bind_op, Prog.bind_ret, Prog.pure_eq_ret]
  iintro ⟨⟨%fb, Hb⟩, ⟨%fo, Ho⟩, Hx⟩
  iapply (wp_load 𝒱₀ (c : Thread nD τ) none Set.univ (m := biasM) (Finset.subset_univ _)) $$ Hb; iintro Hb
  iapply (wp_store 𝒱₀ (c : Thread nD τ) none Set.univ (m := biasM) (r := (Rect.unit (s := S1024x1024) ![0, 0] S1024x1024.size inb_S1024x1024_S1024x1024_0_0)) (Mk := Finset.univ) (Finset.subset_univ _)) $$ Hb; iintro Hb
  iapply (wp_load 𝒱₀ (c : Thread nD τ) none Set.univ (m := outM) (Finset.subset_univ _)) $$ Ho; iintro Ho
  iapply (wp_store 𝒱₀ (c : Thread nD τ) none Set.univ (m := outM) (r := (Rect.unit (s := S1024x1024) ![0, 0] S1024x1024.size inb_S1024x1024_S1024x1024_0_0)) (Mk := Finset.univ) (Finset.subset_univ _)) $$ Ho; iintro Ho
  iapply (wp_load 𝒱₀ (c : Thread nD τ) none Set.univ (m := xM) (Finset.subset_univ _)) $$ Hx; iintro Hx
  have h1 : (biasM.access (Rect.unit (s := S1024x1024) ![0, 0] S1024x1024.size inb_S1024x1024_S1024x1024_0_0)).write (Elt F) fb (k0_pay11 (F := F) (iota .tc S1024x1024 32 [1] iota_S1024x1024_d1_w32) (k0_pay8 (devW c)) (k0_pay9 (devW c)) (k0_pay10 (devW c))) Finset.univ = biasv (F := F) c :=
    Memref.write_access_unit_zero_univ (Elt F) cc0_scratch4 hz2 _ fb _
  have h2 : (outM.access (Rect.unit (s := S1024x1024) ![0, 0] S1024x1024.size inb_S1024x1024_S1024x1024_0_0)).write (Elt F) fo (k0_pay12 (F := F)) Finset.univ = k0_pay12 (F := F) :=
    Memref.write_access_unit_zero_univ (Elt F) cc0_stg3_0 hz2 _ fo _
  have h3 : xM.view.readAt (Elt F) (Rect.unit (s := S1x1024x1024) ![0, 0, 0] S1x1024x1024.size inb_S1x1024x1024_S1x1024x1024_0_0_0).toLoadRect (xs m ρ c) = xs m ρ c :=
    Memref.readAt_unit_zero (Elt F) cc0_stg0_0 hz3 _ _
  rw [wp_ret]
  imodintro
  isplitr
  · ipureintro; exact congrArg k0_pay13 h3
  isplitl [Hb]
  · iapply (Entails.of_eq (congrArg (fun f => iprop((c : Thread nD τ).loc cc0_scratch4 ↦{fullShare} f)) h1)) $$ Hb
  isplitl [Ho]
  · iapply (Entails.of_eq (congrArg (fun f => iprop((c : Thread nD τ).loc cc0_stg3_0 ↦{fullShare} f)) h2)) $$ Ho
  iexact Hx

theorem lv_kv (c : Dev nD) (t : Bool) (s : Fin 2) : lv ((c : Thread nD τ), .dma (kvS t s)) () = 0 := by unfold lv; rw [use_kv]

theorem src_zero (c : Dev nD) : src c 0 = c := by revert c; decide

/-- What the device's rows of the result hold at the end. -/
def outv (c : Dev nD) : (cc0_stg3_0 : Ref sig .tc).ty.Contents (Elt F) :=
  outS m ρ c (biasv (F := F) c) (outS m ρ c (biasv (F := F) c) (outS m ρ c (biasv (F := F) c) (outS m ρ c (biasv (F := F) c) (k0_pay12 (F := F)) (src c 0)) (src c 1)) (src c 2)) (src c 3)

/-- The tokens a device starts with, -/
def BarTok (c : Dev nD) : sProp 𝕄 :=
  iprop(atPos ER (barCell c) 0 ∅ 0 ∗ dutyTok ER (barCell (prv c)) 0 true ∗ dutyTok ER (barCell (nxt c)) 0 false ∗ cred (tallyAt (barCell c) () 2))
/-- and for every copy around the ring. -/
def HopToks (c : Dev nD) : sProp 𝕄 :=
  iprop((HopTok false 0 c ∗ HopTok true 0 c) ∗ (HopTok false 1 c ∗ HopTok true 1 c) ∗ HopTok false 2 c ∗ HopTok true 2 c)
/-- The kernel's semaphores back at zero. -/
def HopDones (c : Dev nD) : sProp 𝕄 :=
  iprop((HopDone false 0 c ∗ HopDone true 0 c) ∗ (HopDone false 1 c ∗ HopDone true 1 c) ∗ HopDone false 2 c ∗ HopDone true 2 c)
/-- The staged arguments. -/
def Staged (c : Dev nD) : sProp 𝕄 :=
  iprop(((c : Thread nD τ).loc cc0_stg0_0 ↦{fullShare} xs m ρ c) ∗ ((c : Thread nD τ).loc cc0_stg1_0 ↦{fullShare} wqs m ρ c) ∗ ((c : Thread nD τ).loc cc0_stg2_0 ↦{fullShare} wos m ρ c))
/-- The scratch the chunks work in. -/
def Work (c : Dev nD) : sProp 𝕄 :=
  iprop((∃ f, (c : Thread nD τ).loc cc0_scratch2 ↦{fullShare} f) ∗ (∃ f, (c : Thread nD τ).loc cc0_scratch3 ↦{fullShare} f) ∗ (∃ f, (c : Thread nD τ).loc cc0_scratch4 ↦{fullShare} f))
/-- A device's four blocks of both weights. -/
def AllSlots (c : Dev nD) : sProp 𝕄 :=
  iprop((slotAny (F := F) false c (src c 0) ∗ slotAny (F := F) true c (src c 0)) ∗ (slotAny (F := F) false c (src c 1) ∗ slotAny (F := F) true c (src c 1))
    ∗ (slotAny (F := F) false c (src c 2) ∗ slotAny (F := F) true c (src c 2)) ∗ slotAny (F := F) false c (src c 3) ∗ slotAny (F := F) true c (src c 3))

theorem slotAt_any (t : Bool) (c : Dev nD) (j : Fin 4) : slotAt m ρ t c j fullShare ⊢ slotAny (F := F) t c j := by
  unfold slotAt slotAny; iintro H; iexists _; iexact H
theorem slots_any (c : Dev nD) (j : Fin 4) :
    iprop(slotAt m ρ false c j fullShare ∗ slotAt m ρ true c j fullShare) ⊢ iprop(slotAny (F := F) false c j ∗ slotAny (F := F) true c j) :=
  BI.sep_mono (slotAt_any m ρ false c j) (slotAt_any m ρ true c j)

/-- The first copies start from both buffers free. -/
theorem start_spec (c : Dev nD) {o9 i9 o10 i10 o11 i11 o12 i12} (h9 : o9 = ![0, 0]) (h10 : o10 = ![0, 0, 0]) (h11 : o11 = ![0, 0, (hd (src c 0) 0).val, 0]) (h12 : o12 = ![0, 1]) :
    iprop(idle1 m c 0 ∗ slotFree (F := F) c 1) ⊢ wp frame (wpE (defs₀ (F := F)) 𝒱₀ (c : Thread nD τ) none) Set.univ (fetchKV o9 i9 o10 i10 o11 i11 o12 i12)
      (fun _ => St m c (src c 0) (some (src c 1)) 0) := by
  iintro ⟨Hi, Hf⟩
  iapply wp_wand $$ [Hi]
  · iapply (fetchKV_spec m c 0 (hd (src c 0) 0) h9 h10 h11 h12) $$ Hi
  iintro %_ Hfl
  unfold St
  rw [dif_pos (by decide)]
  isplitl [Hfl]
  · iexact Hfl
  iexact Hf

set_option maxRecDepth 10000 in
theorem body_spec (K : Dev nD × CK → ℕ) (c : Dev nD)
    (harg0 : xM.IsWhole) (harg1 : wqM.IsWhole) (harg2 : (arrM false).IsWhole) (harg3 : (arrM true).IsWhole) (harg4 : woM.IsWhole) (harg5 : outM.IsWhole)
    (harg6 : (chM false).IsWhole) (harg7 : (chM true).IsWhole) (harg8 : qM.IsWhole) (harg9 : ctxM.IsWhole) (harg10 : biasM.IsWhole) (harg11 : (stM false).IsWhole)
    (harg12 : (stM true).IsWhole) :
    iprop(wire m ρ K ∗ oweAny c (O₀ c) ∗ Staged m ρ c ∗ (∃ f, (c : Thread nD τ).loc cc0_stg3_0 ↦{fullShare} f) ∗ Work (F := F) c
        ∗ (slotAny (F := F) false c (src c 0) ∗ slotAny (F := F) true c (src c 0)) ∗ barPay (F := F) (prv c)
        ∗ (idle1 m c 0 ∗ slotFree (F := F) c 1) ∗ BarTok (F := F) c ∗ HopToks (F := F) c)
      ⊢ wp frame (wpE (defs₀ (F := F)) 𝒱₀ (c : Thread nD τ) none) Set.univ
          (cc0__body (F := F) xM harg0 wqM harg1 (arrM false) harg2 (arrM true) harg3 woM harg4 outM harg5 (chM false) harg6 (chM true) harg7 qM harg8 ctxM harg9 biasM harg10
            (stM false) harg11 (stM true) harg12 cc0_scratch7 cc0_scratch8 cc0_scratch9 cc0_scratch10 cc0_scratch11)
          (fun _ => iprop(oweAny c 0 ∗ Staged m ρ c ∗ ((c : Thread nD τ).loc cc0_stg3_0 ↦{fullShare} outv m ρ c) ∗ Work (F := F) c
            ∗ AllSlots (F := F) c ∗ (idle1 m c 0 ∗ slotFree (F := F) c 1) ∗ semVal (barCell c) 0 ∗ HopDones (F := F) c)) := by
  rw [body_eq]
  simp only [Prog.lift, Prog.bind_op, Prog.bind_ret, Prog.pure_eq_ret, wp_deviceId]
  unfold bodyP Staged Work HopToks BarTok
  iintro ⟨#Hw, HO, ⟨Hx, Hwq, Hwo⟩, Ho, ⟨H2, H3, H4⟩, ⟨Hs, Hs'⟩, Hbp, Hidle, Hbt, ⟨Ht0, Ht0'⟩, ⟨Ht1, Ht1'⟩, Ht2, Ht2'⟩
  ihave #Hlv := (wire_lev m ρ K) $$ Hw
  rw [wp_bind]; iapply wp_wand $$ [Hidle]
  · iapply (start_spec m c rfl rfl (by revert c; decide) rfl) $$ Hidle
  iintro %_ HSt
  rw [wp_bind]; iapply wp_wand $$ [HO Hbp Hbt]
  · iapply (bar_spec m ρ K c) $$ [HO Hbp Hbt]
    isplitr; · iexact Hw
    isplitl [HO]; · iexact HO
    isplitl [Hbp]; · iexact Hbp
    iexact Hbt
  iintro %_ ⟨HO, Hbp, Hbz⟩
  unfold barPay
  icases Hbp with ⟨Hd0, Hd1, Hd2⟩
  rw [wp_bind]; iapply wp_wand $$ [Hwq Hs]
  · iapply (put_spec m ρ c false (src c 0) wqM k0_pay5 (wqs m ρ c)
      (by rw [src_zero]; exact congrArg k0_pay5 (Memref.readAt_unit_zero (Elt F) cc0_stg1_0 hz2 _ _)) (by revert c; decide)) $$ [Hwq Hs]
    isplitl [Hwq]; · iexact Hwq
    iexact Hs
  iintro %_ ⟨Hwq, Hs⟩
  rw [wp_bind]; iapply wp_wand $$ [Hwo Hs']
  · iapply (put_spec m ρ c true (src c 0) woM k0_pay6 (wos m ρ c)
      (by rw [src_zero]; exact congrArg k0_pay6 (Memref.readAt_unit_zero (Elt F) cc0_stg2_0 hz2 _ _)) (by revert c; decide)) $$ [Hwo Hs']
    isplitl [Hwo]; · iexact Hwo
    iexact Hs'
  iintro %_ ⟨Hwo, Hs'⟩
  rw [wp_bind]; iapply wp_wand $$ [H4 Ho Hx]
  · iapply (init_spec m ρ c) $$ [H4 Ho Hx]
    isplitl [H4]; · iexact H4
    isplitl [Ho]; · iexact Ho
    iexact Hx
  iintro %x ⟨%hx, H4, Ho, Hx⟩
  subst hx
  have hmw : ∀ h : Fin 4, ∀ t s, (levAts L lv : sProp 𝕄) ⊢ MayWait (c : Thread nD τ) (.dma (kvS t s)) () (owe c h) := fun h t s =>
    mayWait_owe c (.dma (kvS t s)) h (by rw [lv_kv]; omega)
  rw [wp_bind]; iapply wp_wand $$ [HSt HO H2 H3 H4 Ho Hs Hs' Hd0 Ht0 Ht0']
  · iapply (hop_spec m ρ K c 0 _ _ (dev3_eq c) (dev4_eq c) (some (src c 2)) _ _
      (fun qv f => loop1_spec m harg0 harg1 harg2 harg3 harg4 harg5 harg6 harg7 harg8 harg9 harg10 harg11 harg12 c (owe c 1) qv _ f (hmw 1) _ _ _)
      (by clear hmw; revert c; decide) (by clear hmw; revert c; decide)) $$ [HSt HO H2 H3 H4 Ho Hs Hs' Hd0 Ht0 Ht0']
    isplitr; · iexact Hw
    isplitl [HSt]; · iexact HSt
    isplitl [HO]; · iexact HO
    isplitl [H2 H3 H4 Ho]
    · unfold Carry
      isplitl [H2]; · iexact H2
      isplitl [H4]; · iexact H4
      isplitl [H3]; · iexact H3
      iexact Ho
    isplitl [Hs Hs']
    · isplitl [Hs]; · iexact Hs
      iexact Hs'
    isplitl [Hd0]; · iexact Hd0
    isplitl [Ht0]; · iexact Ht0
    iexact Ht0'
  iintro %_ ⟨HSt, HO, HC, Hs1, Hs0, Hz0⟩
  rw [wp_bind]; iapply wp_wand $$ [HSt HO HC Hs1 Hd1 Ht1 Ht1']
  · iapply (hop_spec m ρ K c 1 _ _ (dev5_eq c) (dev6_eq c) (some (src c 3)) _ _
      (fun qv f => loop2_spec m harg0 harg1 harg2 harg3 harg4 harg5 harg6 harg7 harg8 harg9 harg10 harg11 harg12 c (owe c 2) qv _ f (hmw 2) _ _ _ _)
      (by clear hmw; revert c; decide) (by clear hmw; revert c; decide)) $$ [HSt HO HC Hs1 Hd1 Ht1 Ht1']
    isplitr; · iexact Hw
    isplitl [HSt]; · iexact HSt
    isplitl [HO]; · iexact HO
    isplitl [HC]; · iexact HC
    isplitl [Hs1]; · iexact Hs1
    isplitl [Hd1]; · iexact Hd1
    isplitl [Ht1]; · iexact Ht1
    iexact Ht1'
  iintro %_ ⟨HSt, HO, HC, Hs2, Hs1, Hz1⟩
  rw [wp_bind]; iapply wp_wand $$ [HSt HO HC Hs2 Hd2 Ht2 Ht2']
  · iapply (hop_spec m ρ K c 2 _ _ (dev7_eq c) (dev8_eq c) none _ _
      (fun qv f => loop3_spec m harg0 harg1 harg2 harg3 harg4 harg5 harg6 harg7 harg8 harg9 harg10 harg11 harg12 c (owe c 3) qv _ f (hmw 3) _ _ _ _ _)
      (by clear hmw; revert c; decide) (by clear hmw; revert c; decide)) $$ [HSt HO HC Hs2 Hd2 Ht2 Ht2']
    isplitr; · iexact Hw
    isplitl [HSt]; · iexact HSt
    isplitl [HO]; · iexact HO
    isplitl [HC]; · iexact HC
    isplitl [Hs2]; · iexact Hs2
    isplitl [Hd2]; · iexact Hd2
    isplitl [Ht2]; · iexact Ht2
    iexact Ht2'
  iintro %_ ⟨HSt, HO, HC, ⟨Hs3, Hs3'⟩, Hs2, Hz2⟩
  unfold Carry
  icases HC with ⟨H2, H4, H3, Ho⟩
  iapply wp_wand $$ [HSt HO H2 H3 H4 Ho Hs3 Hs3']
  · iapply (chunk_spec m ρ c (src c 3) none (owe c 3) fullShare _ _
      (fun qv f => loop4_spec m harg0 harg1 harg2 harg3 harg4 harg5 harg6 harg7 harg8 harg9 harg10 harg11 harg12 c (owe c 3) qv _ f (hmw 3) _)
      (by clear hmw; revert c; decide)) $$ [HSt HO H2 H3 H4 Ho Hs3 Hs3']
    isplitr; · iexact Hlv
    isplitl [HSt]; · iexact HSt
    isplitl [HO]; · iexact HO
    isplitl [H2]; · iexact H2
    isplitl [H4]; · iexact H4
    isplitl [H3]; · iexact H3
    isplitl [Ho]; · iexact Ho
    isplitl [Hs3]; · iexact Hs3
    iexact Hs3'
  iintro %_ ⟨HSt, HO, H2, H4, H3, Ho, Hs3, Hs3'⟩
  isplitl [HO]; · iexact HO
  isplitl [Hx Hwq Hwo]
  · isplitl [Hx]; · iexact Hx
    isplitl [Hwq]; · iexact Hwq
    iexact Hwo
  isplitl [Ho]; · iexact Ho
  isplitl [H2 H3 H4]
  · isplitl [H2]; · iexact H2
    isplitl [H3]; · iexact H3
    iexists _; iexact H4
  isplitl [Hs0 Hs1 Hs2 Hs3 Hs3']
  · unfold AllSlots
    isplitl [Hs0]; · iapply (slots_any m ρ c _) $$ Hs0
    isplitl [Hs1]; · iapply (slots_any m ρ c _) $$ Hs1
    isplitl [Hs2]; · iapply (slots_any m ρ c _) $$ Hs2
    isplitl [Hs3]; · iapply (slotAt_any m ρ false c _) $$ Hs3
    iapply (slotAt_any m ρ true c _) $$ Hs3'
  isplitl [HSt]
  · unfold St
    rw [dif_neg (by decide)]
    iexact HSt
  isplitl [Hbz]; · iexact Hbz
  unfold HopDones
  isplitl [Hz0]; · iexact Hz0
  isplitl [Hz1]; · iexact Hz1
  iexact Hz2

end Cert.KernelIdeal.RingAttn

end
-- ==== Proof.KernelIdealOwn.lean ====
/-
The ring all-gather attention kernel, part 6: the kernel's buffers cut into the slots the body works in, and put back
together.
-/
module

public import proofs.«01_k».proof.Proof.KernelIdealBody
public import Idealize.ShloMosaic.PureOps.Ideal
public import Idealize.ShloMosaic.Lib.Ring

@[expose] public section

noncomputable section

namespace Cert.KernelIdeal.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The gathered weights slot by slot -/

theorem bigSep_f4 (Φ : Fin 4 → sProp 𝕄) : bigSep Finset.univ Φ = iprop(Φ 0 ∗ Φ 1 ∗ Φ 2 ∗ Φ 3) := bigSep_univ_eq_bigSepL [0, 1, 2, 3] (by decide) (by decide) Φ
theorem bigSep_f2 (Φ : Fin 2 → sProp 𝕄) : bigSep Finset.univ Φ = iprop(Φ 0 ∗ Φ 1) := bigSep_univ_eq_bigSepL [0, 1] (by decide) (by decide) Φ
theorem bigSep_f3 (Φ : Fin 3 → sProp 𝕄) : bigSep Finset.univ Φ = iprop(Φ 0 ∗ Φ 1 ∗ Φ 2) := bigSep_univ_eq_bigSepL [0, 1, 2] (by decide) (by decide) Φ

/-- A slot's elements are those of its first coordinate. -/
theorem mem_slotRect (j : Fin 4) (i : S4x1024x1024.Idx) : Iff (i ∈ (slotRect j).set) ((i 0).val = j.val) := by
  rw [Rect.mem_set_unit]
  constructor
  · intro h
    have h0 : j.val ≤ (i 0).val ∧ (i 0).val < j.val + 1 := h 0
    omega
  · intro h a
    fin_cases a
    · exact (show j.val ≤ (i 0).val ∧ (i 0).val < j.val + 1 by omega)
    · exact (show 0 ≤ (i 1).val ∧ (i 1).val < 0 + 1024 from ⟨Nat.zero_le _, by have h1 : (i 1).val < 1024 := (i 1).isLt; omega⟩)
    · exact (show 0 ≤ (i 2).val ∧ (i 2).val < 0 + 1024 from ⟨Nat.zero_le _, by have h1 : (i 2).val < 1024 := (i 2).isLt; omega⟩)
theorem mem_stageRect (s : Fin 2) (i : S2x1024x128.Idx) : Iff (i ∈ (stageRect s).set) ((i 0).val = s.val) := by
  rw [Rect.mem_set_unit]
  constructor
  · intro h
    have h0 : s.val ≤ (i 0).val ∧ (i 0).val < s.val + 1 := h 0
    omega
  · intro h a
    fin_cases a
    · exact (show s.val ≤ (i 0).val ∧ (i 0).val < s.val + 1 by omega)
    · exact (show 0 ≤ (i 1).val ∧ (i 1).val < 0 + 1024 from ⟨Nat.zero_le _, by have h1 : (i 1).val < 1024 := (i 1).isLt; omega⟩)
    · exact (show 0 ≤ (i 2).val ∧ (i 2).val < 0 + 128 from ⟨Nat.zero_le _, by have h1 : (i 2).val < 128 := (i 2).isLt; omega⟩)

/-- A rectangle of a whole buffer is that rectangle. -/
theorem set_of_whole {s : Shape} (r : Rect s) (e : Function.Embedding s.Idx s.Idx) (he : ∀ x, e x = x) : r.set.map e = r.set := by
  ext x; rw [Finset.mem_map]
  exact ⟨fun ⟨y, hy, h⟩ => by rw [← h, he]; exact hy, fun h => ⟨x, h, he x⟩⟩

/-- The first coordinate of an element of a gathered buffer, -/
def chRow (t : Bool) (c : Dev nD) : Idx ((chM t).view.loc (c : Thread nD τ)) → Fin 4 := match t with
  | false => fun i => (show S4x1024x1024.Idx from i) 0
  | true => fun i => (show S4x1024x1024.Idx from i) 0
/-- and of a staging buffer. -/
def stRow (t : Bool) (c : Dev nD) : Idx ((stM t).view.loc (c : Thread nD τ)) → Fin 2 := match t with
  | false => fun i => (show S2x1024x128.Idx from i) 0
  | true => fun i => (show S2x1024x128.Idx from i) 0

theorem slot_elems (t : Bool) (c : Dev nD) (j : Fin 4) (i : Idx ((chM t).view.loc (c : Thread nD τ))) : Iff (i ∈ (slot t j).view.set) ((chRow t c i).val = j.val) := by
  rw [slot_set]
  cases t
  · show Iff (i ∈ ((chM false).view.slice (slotRect j)).set) _
    rw [View.set_slice]; exact (Eq.to_iff (congrArg (i ∈ ·) (set_of_whole (s := S4x1024x1024) (slotRect j) _ fun _ => rfl))).trans (mem_slotRect j i)
  · show Iff (i ∈ ((chM true).view.slice (slotRect j)).set) _
    rw [View.set_slice]; exact (Eq.to_iff (congrArg (i ∈ ·) (set_of_whole (s := S4x1024x1024) (slotRect j) _ fun _ => rfl))).trans (mem_slotRect j i)
theorem stage_elems (t : Bool) (c : Dev nD) (s : Fin 2) (i : Idx ((stM t).view.loc (c : Thread nD τ))) : Iff (i ∈ (stage t s).view.set) ((stRow t c i).val = s.val) := by
  rw [stage_set]
  cases t
  · show Iff (i ∈ ((stM false).view.slice (stageRect s)).set) _
    rw [View.set_slice]; exact (Eq.to_iff (congrArg (i ∈ ·) (set_of_whole (s := S2x1024x128) (stageRect s) _ fun _ => rfl))).trans (mem_stageRect s i)
  · show Iff (i ∈ ((stM true).view.slice (stageRect s)).set) _
    rw [View.set_slice]; exact (Eq.to_iff (congrArg (i ∈ ·) (set_of_whole (s := S2x1024x128) (stageRect s) _ fun _ => rfl))).trans (mem_stageRect s i)

/-- The slots' elements, as elements of the whole buffer. -/
def slotSet (t : Bool) (c : Dev nD) (j : Fin 4) : Finset (Idx ((chM t).view.loc (c : Thread nD τ))) := (slot t j).view.set
def stageSet (t : Bool) (c : Dev nD) (s : Fin 2) : Finset (Idx ((stM t).view.loc (c : Thread nD τ))) := (stage t s).view.set

theorem slot_disj (t : Bool) (c : Dev nD) (j j' : Fin 4) (h : j ≠ j') : Disjoint (slotSet t c j) (slotSet t c j') :=
  Finset.disjoint_left.mpr fun i hi hi' => h (Fin.ext (((slot_elems t c j i).mp hi).symm.trans ((slot_elems t c j' i).mp hi')))
theorem slot_cover (t : Bool) (c : Dev nD) : Finset.univ.biUnion (slotSet t c) = Finset.univ :=
  Finset.eq_univ_of_forall fun i => Finset.mem_biUnion.mpr ⟨chRow t c i, Finset.mem_univ _, (slot_elems t c _ i).mpr rfl⟩
theorem stage_disj (t : Bool) (c : Dev nD) (j j' : Fin 2) (h : j ≠ j') : Disjoint (stageSet t c j) (stageSet t c j') :=
  Finset.disjoint_left.mpr fun i hi hi' => h (Fin.ext (((stage_elems t c j i).mp hi).symm.trans ((stage_elems t c j' i).mp hi')))
theorem stage_cover (t : Bool) (c : Dev nD) : Finset.univ.biUnion (stageSet t c) = Finset.univ :=
  Finset.eq_univ_of_forall fun i => Finset.mem_biUnion.mpr ⟨stRow t c i, Finset.mem_univ _, (stage_elems t c _ i).mpr rfl⟩

/-- A gathered buffer held whole at some contents. -/
def chAny (t : Bool) (c : Dev nD) : sProp 𝕄 := iprop(∃ f, (chM t).view.loc (c : Thread nD τ) ↦{fullShare} f)
def stAny (t : Bool) (c : Dev nD) : sProp 𝕄 := iprop(∃ f, (stM t).view.loc (c : Thread nD τ) ↦{fullShare} f)

theorem slot_some (t : Bool) (c : Dev nD) (j : Fin 4) (f : Buf (Elt F) ((chM t).view.loc (c : Thread nD τ))) :
    ((chM t).view.loc (c : Thread nD τ) ↦[slotSet t c j]{fullShare} f : sProp 𝕄) ⊢ slotAny (F := F) t c j := by
  unfold slotAny; iintro H; iexists f; iexact H
theorem stage_some (t : Bool) (c : Dev nD) (j : Fin 2) (f : Buf (Elt F) ((stM t).view.loc (c : Thread nD τ))) :
    ((stM t).view.loc (c : Thread nD τ) ↦[stageSet t c j]{fullShare} f : sProp 𝕄) ⊢ stageFree (F := F) t c j := by
  unfold stageFree; iintro H; iexists f; iexact H

theorem slots_of (t : Bool) (c : Dev nD) : chAny (F := F) t c ⊢ bigSep Finset.univ fun j => slotAny (F := F) t c j := by
  unfold chAny
  iintro ⟨%f, H⟩
  have h := pointsTo_blocks (Ix := Unit) (Name := ℕ) (U := UU) (Lvl := ℕ) (slotSet t c) (slot_disj t c) (slot_cover t c) (q := fullShare) f
  have h2 : (bigSep Finset.univ fun j => ((chM t).view.loc (c : Thread nD τ) ↦[slotSet t c j]{fullShare} f : sProp 𝕄)) ⊢ bigSep Finset.univ fun j => slotAny (F := F) t c j :=
    bigSep_mono fun j _ => slot_some t c j f
  iapply ((Entails.of_eq h).trans h2) $$ H
include m in
theorem slots_to (t : Bool) (c : Dev nD) : (bigSep Finset.univ fun j => slotAny (F := F) t c j) ⊢ chAny (F := F) t c :=
  pointsTo_blocks_join_exists (Ix := Unit) (Name := ℕ) (U := UU) (Lvl := ℕ) (slotSet t c) (slot_disj t c) (slot_cover t c) (q := fullShare) (m ((chM t).view.loc (c : Thread nD τ)))
theorem stages_of (t : Bool) (c : Dev nD) : stAny (F := F) t c ⊢ bigSep Finset.univ fun s => stageFree (F := F) t c s := by
  unfold stAny
  iintro ⟨%f, H⟩
  have h := pointsTo_blocks (Ix := Unit) (Name := ℕ) (U := UU) (Lvl := ℕ) (stageSet t c) (stage_disj t c) (stage_cover t c) (q := fullShare) f
  have h2 : (bigSep Finset.univ fun j => ((stM t).view.loc (c : Thread nD τ) ↦[stageSet t c j]{fullShare} f : sProp 𝕄)) ⊢ bigSep Finset.univ fun j => stageFree (F := F) t c j :=
    bigSep_mono fun j _ => stage_some t c j f
  iapply ((Entails.of_eq h).trans h2) $$ H
include m in
theorem stages_to (t : Bool) (c : Dev nD) : (bigSep Finset.univ fun s => stageFree (F := F) t c s) ⊢ stAny (F := F) t c :=
  pointsTo_blocks_join_exists (Ix := Unit) (Name := ℕ) (U := UU) (Lvl := ℕ) (stageSet t c) (stage_disj t c) (stage_cover t c) (q := fullShare) (m ((stM t).view.loc (c : Thread nD τ)))

/-- The slots counted back around the ring. -/
theorem around (c : Dev nD) (Φ : Fin 4 → sProp 𝕄) : bigSep Finset.univ Φ = iprop(Φ (src c 0) ∗ Φ (src c 1) ∗ Φ (src c 2) ∗ Φ (src c 3)) := by
  rw [bigSep_univ_equiv (Equiv.subLeft c) Φ, bigSep_f4]; rfl

theorem allSlots_of (c : Dev nD) : iprop(chAny (F := F) false c ∗ chAny (F := F) true c) ⊢ AllSlots (F := F) c := by
  iintro ⟨H, H'⟩
  ihave H := ((slots_of (F := F) false c).trans (Entails.of_eq (around c (fun j => slotAny (F := F) false c j)))) $$ H
  ihave H' := ((slots_of (F := F) true c).trans (Entails.of_eq (around c (fun j => slotAny (F := F) true c j)))) $$ H'
  icases H with ⟨H0, H1, H2, H3⟩
  icases H' with ⟨G0, G1, G2, G3⟩
  unfold AllSlots
  isplitl [H0 G0]
  · isplitl [H0] <;> iassumption
  isplitl [H1 G1]
  · isplitl [H1] <;> iassumption
  isplitl [H2 G2]
  · isplitl [H2] <;> iassumption
  isplitl [H3] <;> iassumption
include m in
theorem allSlots_to (c : Dev nD) : AllSlots (F := F) c ⊢ iprop(chAny (F := F) false c ∗ chAny (F := F) true c) := by
  unfold AllSlots
  iintro ⟨⟨H0, G0⟩, ⟨H1, G1⟩, ⟨H2, G2⟩, H3, G3⟩
  isplitl [H0 H1 H2 H3]
  · iapply ((Entails.of_eq (around c (fun j => slotAny (F := F) false c j)).symm).trans (slots_to m false c))
    isplitl [H0]; · iexact H0
    isplitl [H1]; · iexact H1
    isplitl [H2] <;> iassumption
  · iapply ((Entails.of_eq (around c (fun j => slotAny (F := F) true c j)).symm).trans (slots_to m true c))
    isplitl [G0]; · iexact G0
    isplitl [G1]; · iexact G1
    isplitl [G2] <;> iassumption

/-- A device's own slot is its; the others are what its neighbour's copies will fill. -/
theorem allSlots_hand (c : Dev nD) : AllSlots (F := F) c = iprop((slotAny (F := F) false c (src c 0) ∗ slotAny (F := F) true c (src c 0)) ∗ barPay (F := F) (prv c)) := by
  unfold AllSlots barPay
  rw [nxt_prv, show src (prv c) 0 = src c 1 from src_prv c 0, show src (prv c) 1 = src c 2 from src_prv c 1, show src (prv c) 2 = src c 3 from src_prv c 2]

/-- The two staging buffers and the copies' semaphores, slot by slot. -/
theorem stages_idle (c : Dev nD) :
    iprop((arrAt m false c ∗ arrAt m true c) ∗ (stAny (F := F) false c ∗ stAny (F := F) true c)
        ∗ (kvSem (F := F) false c 0 ∗ kvSem (F := F) true c 0) ∗ kvSem (F := F) false c 1 ∗ kvSem (F := F) true c 1)
      ⊢ iprop(idle1 m c 0 ∗ slotFree (F := F) c 1) := by
  iintro ⟨Ha, ⟨H, H'⟩, ⟨K0, K0'⟩, K1, K1'⟩
  ihave H := ((stages_of (F := F) false c).trans (Entails.of_eq (bigSep_f2 (fun s => stageFree (F := F) false c s)))) $$ H
  ihave H' := ((stages_of (F := F) true c).trans (Entails.of_eq (bigSep_f2 (fun s => stageFree (F := F) true c s)))) $$ H'
  icases H with ⟨H0, H1⟩
  icases H' with ⟨G0, G1⟩
  unfold idle1 slotFree
  isplitl [Ha H0 G0 K0 K0']
  · isplitl [Ha]; · iexact Ha
    isplitl [H0 K0]
    · isplitl [H0] <;> iassumption
    isplitl [G0] <;> iassumption
  isplitl [H1 K1]
  · isplitl [H1] <;> iassumption
  isplitl [G1] <;> iassumption
theorem idle_stages (c : Dev nD) :
    iprop(idle1 m c 0 ∗ slotFree (F := F) c 1)
      ⊢ iprop((arrAt m false c ∗ arrAt m true c) ∗ (stAny (F := F) false c ∗ stAny (F := F) true c)
        ∗ (kvSem (F := F) false c 0 ∗ kvSem (F := F) true c 0) ∗ kvSem (F := F) false c 1 ∗ kvSem (F := F) true c 1) := by
  unfold idle1 slotFree
  iintro ⟨⟨Ha, ⟨H0, K0⟩, G0, K0'⟩, ⟨H1, K1⟩, G1, K1'⟩
  isplitl [Ha]; · iexact Ha
  isplitl [H0 G0 H1 G1]
  · isplitl [H0 H1]
    · iapply ((Entails.of_eq (bigSep_f2 (fun s => stageFree (F := F) false c s)).symm).trans (stages_to m false c))
      isplitl [H0] <;> iassumption
    · iapply ((Entails.of_eq (bigSep_f2 (fun s => stageFree (F := F) true c s)).symm).trans (stages_to m true c))
      isplitl [G0] <;> iassumption
  isplitl [K0 K0']
  · isplitl [K0] <;> iassumption
  isplitl [K1] <;> iassumption

end Cert.KernelIdeal.RingAttn

end
-- ==== Proof.KernelIdealDats.lean ====
/-
The ring all-gather attention kernel, part 7: what each device holds before and after the body, and the body's
obligation to the launch.
-/
module

public import proofs.«01_k».proof.Proof.KernelIdealOwn

@[expose] public section

noncomputable section

namespace Cert.KernelIdeal.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What a device holds before and after the body -/

/-- The semaphores of the keys' and values' copies, at zero. -/
def KvSems (c : Dev nD) : sProp 𝕄 :=
  iprop((kvSem (F := F) false c 0 ∗ kvSem (F := F) true c 0) ∗ kvSem (F := F) false c 1 ∗ kvSem (F := F) true c 1)
/-- The keys and the values, unchanged. -/
def KV (c : Dev nD) : sProp 𝕄 := iprop(arrAt m false c ∗ arrAt m true c)
/-- The scratch buffers. -/
def Bufs (c : Dev nD) : sProp 𝕄 := iprop((chAny (F := F) false c ∗ chAny (F := F) true c) ∗ Work (F := F) c ∗ stAny (F := F) false c ∗ stAny (F := F) true c)
/-- What the launch gives a device, -/
def start (c : Dev nD) : sProp 𝕄 := iprop((∃ K, wire m ρ K) ∗ BarTok (F := F) c ∗ HopToks (F := F) c ∗ KV m c ∗ KvSems (F := F) c)
/-- with the scratch, before the body; -/
def Φ₀ (c : Dev nD) : sProp 𝕄 := iprop(start m ρ c ∗ Bufs (F := F) c)
/-- and after it. -/
def Φ₁ (c : Dev nD) : sProp 𝕄 := iprop(Bufs (F := F) c ∗ KV m c ∗ KvSems (F := F) c ∗ semVal (barCell c) 0 ∗ HopDones (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => wqs m ρ c
    | ⟨2, _⟩ => wos m ρ c
    | ⟨3, _⟩ => outv m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ m c ∗ (dats m ρ 0 c).owesAt () t0_0.succ
    ∗ stg c cc0_stg0_0 (xs m ρ c) ∗ stg c cc0_stg1_0 (wqs m ρ c) ∗ stg c cc0_stg2_0 (wos m ρ c) ∗ stg c cc0_stg3_0 (outv m ρ c))

/-- Each argument's block, as the body finds it staged. -/
theorem before_x (c : Dev nD) (d) : (dats m ρ 0 c).before (0 : Fin 4) t0_0 d = xs m ρ c := by
  unfold Dat.before; rw [if_pos (fetch0_0 t0_0)]; rfl
theorem before_wq (c : Dev nD) (d) : (dats m ρ 0 c).before (1 : Fin 4) t0_0 d = wqs m ρ c := by
  unfold Dat.before; rw [if_pos (fetch0_1 t0_0)]; rfl
theorem before_wo (c : Dev nD) (d) : (dats m ρ 0 c).before (2 : Fin 4) t0_0 d = wos m ρ c := by
  unfold Dat.before; rw [if_pos (fetch0_2 t0_0)]; rfl

theorem sound_body (c : Dev nD) : bodyPre m ρ c ⊢ wp frame (wpE (defs₀ (F := F)) 𝒱₀ (c : Thread nD τ) none) Set.univ
    (cc0__body (F := F) xM (hstage0_0 0) wqM (hstage0_1 0) (arrM false) (Memref.isWhole_whole _) (arrM true) (Memref.isWhole_whole _) woM (hstage0_2 0) outM (hstage0_3 0)
      (chM false) (Memref.isWhole_whole _) (chM true) (Memref.isWhole_whole _) qM (Memref.isWhole_whole _) ctxM (Memref.isWhole_whole _) biasM (Memref.isWhole_whole _)
      (stM false) (Memref.isWhole_whole _) (stM true) (Memref.isWhole_whole _) cc0_scratch7 cc0_scratch8 cc0_scratch9 cc0_scratch10 cc0_scratch11)
    (fun _ => bodyPost m ρ c) := by
  unfold bodyPre Φ₀ start Bufs KV KvSems stg
  iintro ⟨⟨⟨⟨%K, #Hw⟩, Hbt, Hht, Hkv, Hks⟩, Hch, Hwork, Hst⟩, Ho, ⟨%d0, ⟨%f0, %h0, Hx⟩⟩, ⟨%d1, ⟨%f1, %h1, Hwq⟩⟩, ⟨%d2, ⟨%f2, %h2, Hwo⟩⟩, ⟨%d3, ⟨%f3, %h3, Hout⟩⟩⟩
  have e0 : f0 = xs m ρ c := h0.trans (before_x m ρ c d0)
  have e1 : f1 = wqs m ρ c := h1.trans (before_wq m ρ c d1)
  have e2 : f2 = wos m ρ c := h2.trans (before_wo m ρ c d2)
  clear h0 h1 h2 h3
  subst e0 e1 e2
  unfold Dat.owesAt Pipeline.owesWithin
  icases Ho with ⟨%W, %hW, HO⟩
  rw [show (dats m ρ 0 c).owed t0_0.castSucc = O₀ c from rfl]
  ihave Hs := ((allSlots_of (F := F) c).trans (Entails.of_eq (allSlots_hand (F := F) c))) $$ Hch
  icases Hs with ⟨Hs, Hbp⟩
  iapply wp_wand $$ [HO Hx Hwq Hwo Hout Hwork Hs Hbp Hkv Hst Hks Hbt Hht]
  · iapply (body_spec m ρ K c) $$ [HO Hx Hwq Hwo Hout Hwork Hs Hbp Hkv Hst Hks Hbt Hht]
    isplitr; · iexact Hw
    isplitl [HO]
    · unfold oweAny; iexists W; iexact HO
    isplitl [Hx Hwq Hwo]
    · unfold Staged
      isplitl [Hx]; · iexact Hx
      isplitl [Hwq] <;> iassumption
    isplitl [Hout]; · iexists f3; iexact Hout
    isplitl [Hwork]; · iexact Hwork
    isplitl [Hs]; · iexact Hs
    isplitl [Hbp]; · iexact Hbp
    isplitl [Hkv Hst Hks]
    · iapply (stages_idle m c) $$ [Hkv Hst Hks]
      isplitl [Hkv]; · iexact Hkv
      isplitl [Hst] <;> iassumption
    isplitl [Hbt] <;> iassumption
  iintro %_ ⟨HO, Hstg, Hout, Hwork, Hs, Hid, Hbz, Hz⟩
  ihave Hch := (allSlots_to m c) $$ Hs
  ihave Hid := (idle_stages m c) $$ Hid
  icases Hid with ⟨Hkv, Hst, Hks⟩
  unfold bodyPost Φ₁ Bufs KV KvSems Staged oweAny stg Dat.owesAt Pipeline.owesWithin
  icases HO with ⟨%W', HO⟩
  icases Hstg with ⟨Hx, Hwq, Hwo⟩
  rw [show (dats m ρ 0 c).owed t0_0.succ = 0 from rfl]
  isplitl [Hch Hwork Hst Hkv Hks Hbz Hz]
  · isplitl [Hch Hwork Hst]
    · isplitl [Hch]; · iexact Hch
      isplitl [Hwork] <;> iassumption
    isplitl [Hkv]; · iexact Hkv
    isplitl [Hks]; · iexact Hks
    isplitl [Hbz] <;> iassumption
  isplitl [HO]
  · iexists W'
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

set_option maxRecDepth 8000 in
/-- The library's body obligation on device `c`. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ,
    show ∀ Φ : Fin cfg0.W → sProp 𝕄, bigSep Finset.univ Φ = iprop(Φ (0 : Fin 4) ∗ Φ (1 : Fin 4) ∗ Φ (2 : Fin 4) ∗ Φ (3 : Fin 4)) from fun Φ => bigSep_W0 Φ]
  simp only [owns_whole_eq]
  exact sound_body m ρ c

end Cert.KernelIdeal.RingAttn

end
-- ==== Proof.KernelIdealLaunch.lean ====
/-
The ring all-gather attention kernel, part 8: the launch — the cells and tokens dealt to the devices, what each owes,
and the run of the program.
-/
module

public import proofs.«01_k».proof.Proof.KernelIdealDats
public import Idealize.ShloMosaic.Lib.Pipeline.CollectiveSegs
public import Idealize.ShloMosaic.Lib.Pipeline.ValueKit.Geometry

@[expose] public section

noncomputable section

namespace Cert.KernelIdeal.RingAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The kernel's own semaphores -/

/-- The ring's, and those of the keys' and values' copies. -/
abbrev OK : Type := (Bool × Bool × Fin 3) ⊕ (Bool × Fin 2)
abbrev osem : OK → SemLoc sig
  | .inl (false, t, h) => .dma (sendS t h)
  | .inl (true, t, h) => .dma (recvS t h)
  | .inr (t, s) => .dma (kvS t s)

set_option maxRecDepth 8000 in
theorem ownSemFacts : Pipeline.OwnSemFacts cfg0.spec osem := by decide

theorem bigSep_ck (Φ : CK → sProp 𝕄) : bigSep Finset.univ Φ = iprop(Φ none ∗ Φ (some (false, false, 0)) ∗ Φ (some (true, false, 0)) ∗ Φ (some (false, true, 0)) ∗ Φ (some (true, true, 0)) ∗ Φ (some (false, false, 1)) ∗ Φ (some (true, false, 1)) ∗ Φ (some (false, true, 1)) ∗ Φ (some (true, true, 1)) ∗ Φ (some (false, false, 2)) ∗ Φ (some (true, false, 2)) ∗ Φ (some (false, true, 2)) ∗ Φ (some (true, true, 2))) :=
  bigSep_univ_eq_bigSepL [none, some (false, false, 0), some (true, false, 0), some (false, true, 0), some (true, true, 0), some (false, false, 1), some (true, false, 1), some (false, true, 1), some (true, true, 1), some (false, false, 2), some (true, false, 2), some (false, true, 2), some (true, true, 2)] (by decide) (by decide) Φ

theorem share_eq (c : Dev nD) (w : Fin cfg0.W) : (dats m ρ 0 c).share w = fullShare := by unfold Dat.share; split <;> rfl

set_option maxRecDepth 8000 in
theorem csem_injective : Function.Injective csem := by decide
theorem kcell_injective : Function.Injective (kcell : Dev nD × CK → GSem nD τ sig) := by
  rintro ⟨c, k⟩ ⟨c', k'⟩ h
  have h1 : c = c' := by have := congrArg (fun g : GSem nD τ sig => g.1.1) h; exact this
  have h2 : csem k = csem k' := congrArg Prod.snd h
  rw [h1, csem_injective h2]
def ringCells : Finset (GSem nD τ sig) := Finset.univ.map ⟨kcell, kcell_injective⟩

/-! ## The duties' tokens -/

/-- One token for every cell, and a second one for the barrier. -/
abbrev TK : Type := Option CK
abbrev tokOf (x : Dev nD × TK) : GSem nD τ sig × ℕ × Bool := match x.2 with
  | none => (barCell x.1, 0, true)
  | some k => (kcell (x.1, k), 0, false)
theorem tokOf_injective : Function.Injective tokOf := by
  rintro ⟨c, j⟩ ⟨c', j'⟩ h
  cases j with
  | none => cases j' with
    | none => have := congrArg (fun x : GSem nD τ sig × ℕ × Bool => x.1.1.1) h; rw [show c = c' from this]
    | some k' => exact absurd (congrArg (fun x : GSem nD τ sig × ℕ × Bool => x.2.2) h) (fun h' => by cases h')
  | some k => cases j' with
    | none => exact absurd (congrArg (fun x : GSem nD τ sig × ℕ × Bool => x.2.2) h) (fun h' => by cases h')
    | some k' =>
      have := kcell_injective (congrArg Prod.fst h)
      rw [show c = c' from congrArg Prod.fst this, show k = k' from congrArg Prod.snd this]
def ringToks : Finset (GSem nD τ sig × ℕ × Bool) := Finset.univ.map ⟨tokOf, tokOf_injective⟩
def tokAt (x : Dev nD × TK) : sProp 𝕄 := dutyTok ER (tokOf x).1 (tokOf x).2.1 (tokOf x).2.2

theorem bigSep_tk (Φ : TK → sProp 𝕄) : bigSep Finset.univ Φ = iprop(Φ none ∗ Φ (some none) ∗ Φ (some (some (false, false, 0))) ∗ Φ (some (some (true, false, 0))) ∗ Φ (some (some (false, true, 0))) ∗ Φ (some (some (true, true, 0))) ∗ Φ (some (some (false, false, 1))) ∗ Φ (some (some (true, false, 1))) ∗ Φ (some (some (false, true, 1))) ∗ Φ (some (some (true, true, 1))) ∗ Φ (some (some (false, false, 2))) ∗ Φ (some (some (true, false, 2))) ∗ Φ (some (some (false, true, 2))) ∗ Φ (some (some (true, true, 2)))) :=
  bigSep_univ_eq_bigSepL [none, some none, some (some (false, false, 0)), some (some (true, false, 0)), some (some (false, true, 0)), some (some (true, true, 0)), some (some (false, false, 1)), some (some (true, false, 1)), some (some (false, true, 1)), some (some (true, true, 1)), some (some (false, false, 2)), some (some (true, false, 2)), some (some (false, true, 2)), some (some (true, true, 2))] (by decide) (by decide) Φ

def u₀ : UU := (initOf (Pipeline.cells cfgs cellOf_inj) (Pipeline.launchToks cfgs cellOf_inj), (initOf ringCells ringToks, 1))

/-- Where the duty of a device lies: its neighbours' barrier cells, its own sending cells, its neighbour's landing cells. -/
def dealE : TK → Dev nD ≃ Dev nD
  | none => ring.symm
  | some none => ring
  | some (some (false, _, _)) => Equiv.refl _
  | some (some (true, _, _)) => ring
def deal : Dev nD × TK ≃ Dev nD × TK where
  toFun p := (dealE p.2 p.1, p.2)
  invFun p := ((dealE p.2).symm p.1, p.2)
  left_inv p := by simp
  right_inv p := by simp

/-- What the launch element deals device `c`. -/
def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ bigSep Finset.univ fun k : TK => tokAt (F := F) (c, k))

/-- What every device knows, -/
def records (K : Dev nD × CK → ℕ) : sProp 𝕄 :=
  iprop((bigSep Finset.univ fun ck : Dev nD × CK => cellInv ER (ringRd m ρ) (K ck) (kcell ck))
    ∗ bigSep Finset.univ fun ck : Dev nD × CK => reached ER (kcell ck) 0)
instance records_persistent (K : Dev nD × CK → ℕ) : BI.Persistent (records m ρ K) := by unfold records; infer_instance
/-- what stays with device `c`: its positions, the tokens of the duties it pays, and its copies' semaphores. -/
def linear (c : Dev nD) : sProp 𝕄 :=
  iprop((bigSep Finset.univ fun k : CK => atPos ER (kcell (c, k)) 0 ∅ 0) ∗ (bigSep Finset.univ fun k : TK => tokAt (F := F) (deal (c, k))) ∗ KvSems (F := F) c)
/-- What the global step makes of it. -/
def G' (c : Dev nD) : sProp 𝕄 := iprop(∃ K, records m ρ K ∗ linear (F := F) c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun k : TK => tokAt (F := F) (c, k) := by
    unfold ringToks; rw [bigSep_map, bigSep_univ_prod]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

set_option maxRecDepth 8000 in
theorem ownSems0_eq (c : Dev nD) : (Pipeline.ownSems0 (Ix := Unit) (Name := ℕ) (U := UU) (Lvl := ℕ) (Val := Elt F) (τ := τ) osem c : sProp 𝕄)
    = iprop(semVal (sendCell false 0 c) 0 ∗ semVal (recvCell false 0 c) 0 ∗ semVal (sendCell true 0 c) 0 ∗ semVal (recvCell true 0 c) 0 ∗ semVal (sendCell false 1 c) 0 ∗ semVal (recvCell false 1 c) 0 ∗ semVal (sendCell true 1 c) 0 ∗ semVal (recvCell true 1 c) 0 ∗ semVal (sendCell false 2 c) 0 ∗ semVal (recvCell false 2 c) 0 ∗ semVal (sendCell true 2 c) 0 ∗ semVal (recvCell true 2 c) 0 ∗ kvSem (F := F) false c 0 ∗ kvSem (F := F) true c 0 ∗ kvSem (F := F) false c 1 ∗ kvSem (F := F) true c 1) := by
  rw [Pipeline.ownSems0_eq_of_list c osem [.inl (false, false, 0), .inl (true, false, 0), .inl (false, true, 0), .inl (true, true, 0), .inl (false, false, 1), .inl (true, false, 1), .inl (false, true, 1), .inl (true, true, 1), .inl (false, false, 2), .inl (true, false, 2), .inl (false, true, 2), .inl (true, true, 2), .inr (false, 0), .inr (true, 0), .inr (false, 1), .inr (true, 1)] (by decide) (by decide)]; rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_of (c : Dev nD) :
    iprop(Pipeline.ownSems0 (Ix := Unit) (Name := ℕ) (U := UU) (Lvl := ℕ) (Val := Elt F) (τ := τ) osem c ∗ unscopedSems0 c)
      ⊢ iprop((bigSep Finset.univ fun k : CK => semVal (kcell (c, k)) 0) ∗ KvSems (F := F) c : sProp 𝕄) := by
  rw [ownSems0_eq, unscopedSems0_eq, bigSep_ck]
  unfold KvSems
  iintro ⟨⟨HSf0, HRf0, HSt0, HRt0, HSf1, HRf1, HSt1, HRt1, HSf2, HRf2, HSt2, HRt2, K1, K2, K3, K4⟩, HB⟩
  isplitl [HB HSf0 HRf0 HSt0 HRt0 HSf1 HRf1 HSt1 HRt1 HSf2 HRf2 HSt2 HRt2]
  · isplitl [HB]; · iexact HB
    isplitl [HSf0]; · iexact HSf0
    isplitl [HRf0]; · iexact HRf0
    isplitl [HSt0]; · iexact HSt0
    isplitl [HRt0]; · iexact HRt0
    isplitl [HSf1]; · iexact HSf1
    isplitl [HRf1]; · iexact HRf1
    isplitl [HSt1]; · iexact HSt1
    isplitl [HRt1]; · iexact HRt1
    isplitl [HSf2]; · iexact HSf2
    isplitl [HRf2]; · iexact HRf2
    isplitl [HSt2]; · iexact HSt2
    iexact HRt2
  isplitl [K1 K2]
  · isplitl [K1] <;> iassumption
  isplitl [K3] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ (bigSep Finset.univ fun k : TK => tokAt (F := F) (c, k)) ∗ KvSems (F := F) c) := by
  unfold G
  iintro ⟨Hos, Hus, Hst, Hat, Htok⟩
  ihave Hv := (sems0_of (F := F) c) $$ [Hos Hus]
  · isplitl [Hos] <;> iassumption
  icases Hv with ⟨Hv, Hkv⟩
  imod (show iprop((bigSep Finset.univ fun k : CK => semVal (kcell (c, k)) 0) ∗ bigSep Finset.univ fun k : CK => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hkv

theorem ghost_intro (K : Dev nD × CK → ℕ) (c : Dev nD) : iprop(records m ρ K ∗ linear (F := F) c) ⊢ G' m ρ c := by
  unfold G'
  iintro ⟨HR, HL⟩
  iexists K
  isplitl [HR] <;> iassumption

/-- The tokens dealt around the ring. -/
theorem toks_around : (bigSep Finset.univ fun c : Dev nD => bigSep Finset.univ fun k : TK => tokAt (F := F) (c, k))
    = bigSep Finset.univ fun c : Dev nD => bigSep Finset.univ fun k : TK => tokAt (F := F) (deal (c, k)) := by
  rw [← bigSep_univ_prod (fun x : Dev nD × TK => tokAt (F := F) x), bigSep_univ_equiv deal (fun x : Dev nD × TK => tokAt (F := F) x), bigSep_univ_prod]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ (bigSep Finset.univ fun k : TK => tokAt (F := F) (c, k)) ∗ KvSems (F := F) c) : sProp 𝕄)
      ⊢ bigSep Finset.univ (G' m ρ) := by
  rw [bigSep_sep', bigSep_sep', bigSep_sep', ← bigSep_univ_prod (fun ck : Dev nD × CK => iprop(∃ κ : ℕ, cellInv ER (ringRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok, Hkv⟩
  ihave HK := (BI.bigSep_exists_pi Finset.univ (fun (ck : Dev nD × CK) (κ : ℕ) => (cellInv ER (ringRd m ρ) κ (kcell ck) : sProp 𝕄))) $$ HI
  icases HK with ⟨%K, #HI⟩
  iapply (bigSep_with_persistent (R := records m ρ K) fun c _ => ghost_intro m ρ K c)
  isplitr
  · unfold records; isplitl; · iexact HI
    iexact HR
  · unfold linear
    rw [bigSep_sep', bigSep_sep']
    isplitl [Hat]; · iexact Hat
    isplitl [Htok] <;> iassumption

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {t t' : Bool} {h h' : Fin 3} : Iff (recvCell t h a = recvCell t' h' b) (a = b ∧ t = t' ∧ h = h') := by
  constructor
  · intro e
    have h1 := kcell_injective (a₁ := (a, some (true, t, h))) (a₂ := (b, some (true, t', h'))) e
    rw [Prod.mk.injEq, Option.some.injEq, Prod.mk.injEq, Prod.mk.injEq] at h1
    exact ⟨h1.1, h1.2.2.1, h1.2.2.2⟩
  · rintro ⟨rfl, rfl, rfl⟩; rfl
theorem recv_ne_bar {a b : Dev nD} {t : Bool} {h : Fin 3} : recvCell t h a ≠ barCell b := fun e => by
  have h1 := kcell_injective (a₁ := (a, some (true, t, h))) (a₂ := (b, none)) e
  rw [Prod.mk.injEq] at h1
  cases h1.2

theorem nxt_eq_iff (d c : Dev nD) : Iff (c = nxt d) (d = prv c) :=
  ⟨fun h => by rw [h, prv_nxt], fun h => by rw [h, nxt_prv]⟩
theorem prv_eq_iff (d c : Dev nD) : Iff (c = prv d) (d = nxt c) :=
  ⟨fun h => by rw [h, nxt_prv], fun h => by rw [h, prv_nxt]⟩

/-- A landing promised counts at its own cell only. -/
theorem recvT_recv (d c : Dev nD) (t t' : Bool) (h h' : Fin 3) : recvT d t' h' (recvCell t h c) () = if t = t' ∧ h = h' ∧ d = prv c then NB t else 0 := by
  unfold recvT
  rw [tallyAt_apply]
  by_cases e : t = t' ∧ h = h' ∧ d = prv c
  · obtain ⟨rfl, rfl, e⟩ := e
    rw [if_pos ⟨recv_eq_iff.mpr ⟨(nxt_eq_iff d c).mpr e, rfl, rfl⟩, rfl⟩, if_pos ⟨rfl, rfl, e⟩]
  · rw [if_neg (fun h1 => e ⟨(recv_eq_iff.mp h1.1).2.1, (recv_eq_iff.mp h1.1).2.2, (nxt_eq_iff d c).mp (recv_eq_iff.mp h1.1).1⟩), if_neg e]
theorem recvT_bar (d c : Dev nD) (t' : Bool) (h' : Fin 3) : recvT d t' h' (barCell c) () = 0 := by
  unfold recvT
  rw [tallyAt_apply, if_neg (fun h1 => recv_ne_bar h1.1.symm)]

theorem owe0_apply (d : Dev nD) (g : GSem nD τ sig) : owe0 d g () = 0 + recvT d true 2 g () + recvT d false 2 g () + recvT d true 1 g () + recvT d false 1 g () + recvT d true 0 g () + recvT d false 0 g () := rfl
theorem O₀_apply (d : Dev nD) (g : GSem nD τ sig) : O₀ d g () = owe0 d g () + (tallyAt (barCell (nxt d)) () 1 : CellTallies nD τ sig Unit) g () + (tallyAt (barCell (prv d)) () 1 : CellTallies nD τ sig Unit) g () := rfl

theorem owed_bar (d c : Dev nD) : O₀ d (barCell c) () = (if d = prv c then 1 else 0) + (if d = nxt c then 1 else 0) := by
  rw [O₀_apply, owe0_apply]
  simp only [recvT_bar, tallyAt_apply, bar_eq_iff, and_true, Nat.zero_add, nxt_eq_iff d c, if_congr (prv_eq_iff d c) rfl rfl]

theorem owed_recv (d c : Dev nD) (t : Bool) (h : Fin 3) : O₀ d (recvCell t h c) () = if d = prv c then NB t else 0 := by
  rw [O₀_apply, owe0_apply]
  simp only [recvT_recv, tallyAt_apply, recv_ne_bar, false_and, if_false, Nat.zero_add, Nat.add_zero]
  cases t <;> fin_cases h <;> simp

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (t : Bool) (h : Fin 3) :
    tallyOn (recvCell t h c) (launchCredit (Pipeline.owing O₀) 0 (recvCell t h c)) = (tallyAt (recvCell t h c) () (NB t) : CellTallies nD τ sig Unit) := by
  unfold tallyAt; refine congrArg _ (Finsupp.ext fun u => ?_); cases u
  rw [Pipeline.launchCredit_owing, Finsupp.single_eq_same, Finset.sum_congr rfl fun d _ => owed_recv d c t h, Finset.sum_ite_eq' Finset.univ (prv c) fun _ => NB t,
    if_pos (Finset.mem_univ _)]

/-- The credit of a cell of the ring, as the launch gives it. -/
def credK (c : Dev nD) (k : CK) : sProp 𝕄 := cred (tallyOn ((c : Thread nD τ), csem k) (launchCredit (Pipeline.owing O₀) 0 ((c : Thread nD τ), csem k)))
theorem credK_bar (c : Dev nD) : credK (F := F) c none = cred (tallyAt (barCell c) () 2) := by unfold credK; rw [← launch_bar]
theorem credK_recv (c : Dev nD) (t : Bool) (h : Fin 3) : credK (F := F) c (some (true, t, h)) = cred (tallyAt (recvCell t h c) () (NB t)) := by unfold credK; rw [← launch_recv]

theorem creds (c : Dev nD) : (Pipeline.launchCred O₀ c : sProp 𝕄) ⊢ bigSep Finset.univ (credK (F := F) c) := by
  unfold Pipeline.launchCred
  rw [BI.bigSep_sdiff_split (Finset.subset_univ (Finset.univ.map ⟨csem, csem_injective⟩))]
  refine (show iprop(bigSep (Finset.univ.map ⟨csem, csem_injective⟩) _ ∗ _) ⊢ _ from ?_)
  rw [bigSep_map]
  iintro ⟨H, -⟩
  iexact H

/-! ## The launch's side conditions -/

theorem tok_bar_prv (c : Dev nD) : tokAt (F := F) (deal (c, none)) = dutyTok ER (barCell (prv c)) 0 true := rfl
theorem tok_bar_nxt (c : Dev nD) : tokAt (F := F) (deal (c, some none)) = dutyTok ER (barCell (nxt c)) 0 false := rfl
theorem tok_send (c : Dev nD) (t : Bool) (h : Fin 3) : tokAt (F := F) (deal (c, some (some (false, t, h)))) = dutyTok ER (sendCell t h c) 0 false := rfl
theorem tok_recv (c : Dev nD) (t : Bool) (h : Fin 3) : tokAt (F := F) (deal (c, some (some (true, t, h)))) = dutyTok ER (recvCell t h (nxt c)) 0 false := rfl

theorem tokens_deal (c : Dev nD) :
    iprop((bigSep Finset.univ fun k : CK => atPos ER (kcell (c, k)) 0 ∅ 0) ∗ (bigSep Finset.univ fun k : TK => tokAt (F := F) (deal (c, k))) ∗ bigSep Finset.univ (credK (F := F) c))
      ⊢ iprop(BarTok (F := F) c ∗ HopToks (F := F) c) := by
  rw [bigSep_ck, bigSep_ck, bigSep_tk, credK_bar]
  simp only [credK_recv, tok_bar_prv, tok_bar_nxt, tok_send, tok_recv]
  unfold BarTok HopToks HopTok
  iintro ⟨⟨AB, ASf0, ARf0, ASt0, ARt0, ASf1, ARf1, ASt1, ARt1, ASf2, ARf2, ASt2, ARt2⟩, ⟨TB, TB', TSf0, TRf0, TSt0, TRt0, TSf1, TRf1, TSt1, TRt1, TSf2, TRf2, TSt2, TRt2⟩, CB, -, CRf0, -, CRt0, -, CRf1, -, CRt1, -, CRf2, -, CRt2⟩
  isplitl [AB TB TB' CB]
  · isplitl [AB]; · iexact AB
    isplitl [TB]; · iexact TB
    isplitl [TB']; · iexact TB'
    iexact CB
  isplitl [ASf0 ARf0 CRf0 TSf0 TRf0 ASt0 ARt0 CRt0 TSt0 TRt0]
  · isplitl [ASf0 ARf0 CRf0 TSf0 TRf0]
    · isplitl [ASf0 ARf0 CRf0]
      · isplitl [ASf0]; · iexact ASf0
        isplitl [ARf0] <;> iassumption
      isplitl [TSf0]; · iexact TSf0
      iexact TRf0
    isplitl [ASt0 ARt0 CRt0]
    · isplitl [ASt0]; · iexact ASt0
      isplitl [ARt0] <;> iassumption
    isplitl [TSt0]; · iexact TSt0
    iexact TRt0
  isplitl [ASf1 ARf1 CRf1 TSf1 TRf1 ASt1 ARt1 CRt1 TSt1 TRt1]
  · isplitl [ASf1 ARf1 CRf1 TSf1 TRf1]
    · isplitl [ASf1 ARf1 CRf1]
      · isplitl [ASf1]; · iexact ASf1
        isplitl [ARf1] <;> iassumption
      isplitl [TSf1]; · iexact TSf1
      iexact TRf1
    isplitl [ASt1 ARt1 CRt1]
    · isplitl [ASt1]; · iexact ASt1
      isplitl [ARt1] <;> iassumption
    isplitl [TSt1]; · iexact TSt1
    iexact TRt1
  isplitl [ASf2 ARf2 CRf2 TSf2 TRf2]
  · isplitl [ASf2 ARf2 CRf2]
    · isplitl [ASf2]; · iexact ASf2
      isplitl [ARf2] <;> iassumption
    isplitl [TSf2]; · iexact TSf2
    iexact TRf2
  isplitl [ASt2 ARt2 CRt2]
  · isplitl [ASt2]; · iexact ASt2
    isplitl [ARt2] <;> iassumption
  isplitl [TSt2]; · iexact TSt2
  iexact TRt2

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, show (Pipeline.unscopedRest (Ix := Unit) (Name := ℕ) (U := UU) (Lvl := ℕ) cfg0.spec c (fun b => m ((c : Thread nD τ).loc b)) : sProp 𝕄) = _ from unscopedRest0_eq c _]
  unfold G' linear records
  iintro ⟨⟨HK, HV⟩, #Hlev, Hcr, -, ⟨%K, ⟨#HI, #HR⟩, Hat, Htok, Hkv⟩⟩
  ihave Hc := (creds (F := F) c) $$ Hcr
  ihave Ht := (tokens_deal (F := F) c) $$ [Hat Htok Hc]
  · isplitl [Hat]; · iexact Hat
    isplitl [Htok] <;> iassumption
  icases Ht with ⟨Hbt, Hht⟩
  imodintro
  unfold start wire KV arrAt
  isplitl
  · isplitr
    · iexists K
      isplitr; · iexact HI
      isplitr; · iexact HR
      iexact Hlev
    isplitl [Hbt]; · iexact Hbt
    isplitl [Hht]; · iexact Hht
    isplitl [HK HV]
    · isplitl [HK]; · iexact HK
      iexact HV
    iexact Hkv
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ Bufs chAny stAny Work
  iintro ⟨Hs, -, H0, H1, H2, H3, H4, H5, H6⟩
  isplitl [Hs]; · iexact Hs
  isplitl [H0 H1]
  · isplitl [H0]; · iexact H0
    iexact H1
  isplitl [H2 H3 H4]
  · isplitl [H2]; · iexact H2
    isplitl [H3] <;> iassumption
  isplitl [H5]; · iexact H5
  iexact H6

theorem phi1_exit (c : Dev nD) :
    (dats m ρ 0 c).Φ (Fin.last cfg0.N) ⊢ iprop((unscopedSems0 c ∗ KV m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ Bufs chAny stAny Work HopDones HopDone KvSems
  iintro ⟨⟨⟨H0, H1⟩, ⟨H2, H3, H4⟩, H5, H6⟩, Hkv, ⟨⟨K1, K2⟩, K3, K4⟩, HB, ⟨⟨HSf0, HRf0⟩, HSt0, HRt0⟩, ⟨⟨HSf1, HRf1⟩, HSt1, HRt1⟩, ⟨HSf2, HRf2⟩, HSt2, HRt2⟩
  isplitl [HB Hkv]
  · isplitl [HB] <;> iassumption
  isplitl [K1 K2 K3 K4 HSf0 HRf0 HSt0 HRt0 HSf1 HRf1 HSt1 HRt1 HSf2 HRf2 HSt2 HRt2]
  · isplitl [HSf0]; · iexact HSf0
    isplitl [HRf0]; · iexact HRf0
    isplitl [HSt0]; · iexact HSt0
    isplitl [HRt0]; · iexact HRt0
    isplitl [HSf1]; · iexact HSf1
    isplitl [HRf1]; · iexact HRf1
    isplitl [HSt1]; · iexact HSt1
    isplitl [HRt1]; · iexact HRt1
    isplitl [HSf2]; · iexact HSf2
    isplitl [HRf2]; · iexact HRf2
    isplitl [HSt2]; · iexact HSt2
    isplitl [HRt2]; · iexact HRt2
    isplitl [K1]; · iexact K1
    isplitl [K2]; · iexact K2
    isplitl [K3] <;> iassumption
  isplitl [H0]; · iexact H0
  isplitl [H1]; · iexact H1
  isplitl [H2]; · iexact H2
  isplitl [H3]; · iexact H3
  isplitl [H4]; · iexact H4
  isplitl [H5]; · iexact H5
  iexact H6

theorem use_stage (w : Fin cfg0.W) (s : Fin (cfg0.win w).nbuf) : use (.dma ((cfg0.win w).sem s)) = .loc := by
  fin_cases w <;> fin_cases s <;> decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

def QY (c : Dev nD) (s : MemSt nD τ sig (Elt F)) : Prop :=
  (∀ sm : SemLoc sig, sm.isScoped .tc = false → s.sem ((c.tc : Thread nD τ), sm) = 0)
    ∧ s.mem ((c : Thread nD τ).loc main_arg2) = m ((c : Thread nD τ).loc main_arg2) ∧ s.mem ((c : Thread nD τ).loc main_arg3) = m ((c : Thread nD τ).loc main_arg3)

theorem read_end (c : Dev nD) (s' : Phys nD τ sig (Elt F)) :
    (iprop((unscopedSems0 c ∗ KV m c) ∗ emp ∗ SI s') : sProp 𝕄) ⊢ |={Set.univ}=> iprop(⌜QY m c s'.mem⌝ ∗ SI s') := by
  unfold KV arrAt
  iintro ⟨⟨Hu, HK, HV⟩, -, HSI⟩
  ihave %hK := (SI_pointsTo_agree (Ix := Unit) (Name := ℕ) (U := UU) (Lvl := ℕ)) $$ [HSI HK]
  · isplitl [HSI] <;> iassumption
  ihave %hV := (SI_pointsTo_agree (Ix := Unit) (Name := ℕ) (U := UU) (Lvl := ℕ)) $$ [HSI HV]
  · isplitl [HSI] <;> iassumption
  imod (Pipeline.unscopedSems0_read (X := unscopedSems0 c) (c := c) fupd_intro s') $$ [Hu HSI] with ⟨%h, HSI⟩
  · isplitl [Hu] <;> iassumption
  imodintro
  isplitr
  · ipureintro
    exact ⟨h, funext fun i => hK i (Finset.mem_univ i), funext fun i => hV i (Finset.mem_univ i)⟩
  iexact HSI

set_option maxRecDepth 8000 in
/-- At the compiled mesh of four devices, for any float values, from any memory with zero counters: every weakly fair
    execution of the program — the four kernels handshaking, then passing both weights around the ring while they
    attend with the block they hold — terminates, and every final state has each device's result at the computed
    contents, the arguments unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring m ρ) $$ HX with HG
      imodintro
      isplitl [HP] <;> iassumption)
    (hglob := glob m ρ)
    (hA := fun _ _ => rfl) (hpf := fun _ k => k.elim0)
    (X := start m ρ) (Y := fun c => iprop(unscopedSems0 c ∗ KV m c)) (Z := fun _ => iprop(emp))
    (hX := start_intro m ρ) (hin := phi0_intro m ρ) (hout := phi1_exit m ρ)
    (QY := QY m)
    (hY := read_end m)
    (hQ := fun _ h hs => ⟨fun c => ⟨fun w => (h c).1 w, (h c).2.2.2⟩, sem_eq_zero hs fun c => (h c).2.2.1⟩)

theorem final_x (c : Dev nD) : finalA m ρ c 0 = m ((c : Thread nD τ).loc main_arg0) := (dats m ρ 0 c).arrAt_in 0 rfl _
theorem final_wq (c : Dev nD) : finalA m ρ c 1 = m ((c : Thread nD τ).loc main_arg1) := (dats m ρ 0 c).arrAt_in 1 rfl _
theorem final_wo (c : Dev nD) : finalA m ρ c 2 = m ((c : Thread nD τ).loc main_arg4) := (dats m ρ 0 c).arrAt_in 2 rfl _

/-- Every argument of every device as it was. -/
def Kept (r : PUnit × MemSt nD τ sig (Elt F)) : Prop := ∀ c : Dev nD,
  r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3)
    ∧ r.2.mem ((c : Thread nD τ).loc main_arg4) = m ((c : Thread nD τ).loc main_arg4)

theorem kept_of {r : PUnit × MemSt nD τ sig (Elt F)} (h : QC m ρ r) : Kept m r := fun c =>
  ⟨((h c).1 0).trans (final_x m ρ c), ((h c).1 1).trans (final_wq m ρ c), (h c).2.1, (h c).2.2, ((h c).1 2).trans (final_wo m ρ c)⟩

/-- The run keeps the arguments and brings every counter back to zero. -/
theorem frame_main : θ_run defs (onTc (τ := τ) (main (F := F))) (s₀ m ρ) (fun r => Kept m r ∧ r.2.sem = fun _ => 0) :=
  (θ_run defs _ _).mono (fun r h => ⟨kept_of m ρ h.1, h.2⟩) (run_main m ρ)

set_option maxRecDepth 8000 in
/-- The result the program leaves on device `c`. -/
theorem final_out (c : Dev nD) : finalA m ρ c 3 = outv m ρ c := by
  refine (dats m ρ 0 c).arrAt_eq_of_covers 3 (outv m ρ c) (by decide +kernel) fun t hf y => ?_
  have hy : (win0_3.blk t).view.emb y = y := by
    funext a; refine Fin.ext ?_
    blk_simp
    rw [show win0_3.index t a = 0 from (by decide +kernel : ∀ (t : Fin cfg0.N) (a : Fin 2), win0_3.index t a = 0) t a, zero_mul, zero_add]
  exact (congrArg (outv m ρ c) hy).symm

end Cert.KernelIdeal.RingAttn

end
-- ==== Proof.Frames.lean ====
/- The claims that speak of no result: each program runs to its end, leaves its arguments as they were, and leaves every
   counter at zero; and the one rewrite of the idealized kernel is the sanctioned one. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelLaunch
public import proofs.«01_k».proof.Proof.KernelIdealLaunch

@[expose] public section

noncomputable section

namespace Cert.Proof

open Idealize.ShloMosaic Idealize.SL.Sem

theorem frame_kernel : Cert.quiescent_Kernel (hKernel := Cert.Kernel.Gen.facts) :=
  fun m g _ => Cert.Kernel.RingAttn.frame_main m g

theorem frame_kernelIdeal : Cert.quiescent_KernelIdeal (hKernelIdeal := Cert.KernelIdeal.Gen.facts) :=
  fun m g _ => Cert.KernelIdeal.RingAttn.frame_main m g

theorem frame_referenceIdeal : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

theorem preserves : Cert.preserves_Kernel_KernelIdeal :=
  IdealRules.named_const.statement Cert.KernelIdeal.κ "mask" .f32 _ ⊥ rfl

end Cert.Proof

end
-- ==== Proof.ValueMath.lean ====
/- Arithmetic of extended reals that the value of the result needs: a row of attention without the subtraction of the
   row's maximum and divided at the end is the row with both, and a sum over 4096 entries is a sum over four chunks. -/
module

public import Idealize.ShloMosaic.Lib.Pointwise

@[expose] public section

noncomputable section

namespace Cert.Attn

open Idealize.ShloMosaic

/-- An extended real that is a real. -/
def IsReal (x : EReal) : Prop := ∃ r : ℝ, x = (r : EReal)

theorem IsReal.mul {x y : EReal} : IsReal x → IsReal y → IsReal (x * y) := by
  rintro ⟨a, rfl⟩ ⟨b, rfl⟩
  exact ⟨a * b, (EReal.coe_mul a b).symm⟩

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

theorem IsReal.of_abs_lt {x : EReal} (h : max x (-x) < ⊤) : IsReal x := by
  induction x with
  | bot => simp at h
  | top => simp at h
  | coe r => exact ⟨r, rfl⟩

/-- A nonnegative real distributes over a sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- A real factor moves through a sum of products of reals. -/
theorem sum_scale {ι : Type} [Fintype ι] {f g : ι → EReal} {c : EReal} (hf : ∀ i, IsReal (f i)) (hg : ∀ i, IsReal (g i))
    (hc : IsReal c) : (∑ i, f i * c * g i) = (∑ i, f i * g i) * c := by
  choose f' hf using hf
  choose g' hg using hg
  obtain ⟨c', rfl⟩ := hc
  have h1 : (∑ i, f i * (c' : EReal) * g i) = ((∑ i, f' i * c' * g' i : ℝ) : EReal) := by
    rw [← coe_sum]; exact Finset.sum_congr rfl fun i _ => by rw [hf, hg, ← EReal.coe_mul, ← EReal.coe_mul]
  have h2 : (∑ i, f i * g i) = ((∑ i, f' i * g' i : ℝ) : EReal) := by
    rw [← coe_sum]; exact Finset.sum_congr rfl fun i _ => by rw [hf, hg, ← EReal.coe_mul]
  rw [h1, h2, ← EReal.coe_mul, Finset.sum_mul]
  congr 1
  exact Finset.sum_congr rfl fun i _ => by ring

section Row

variable {ι : Type} [Fintype ι] (σ : ι → ℝ) (M : ι → Bool)

/-- The masked scores of a row. -/
def cut (t : ι) : EReal := if M t then (σ t : EReal) else ⊥

theorem exp_bias (t : ι) : Ideal.exp ((σ t : EReal) + (if M t then (0 : EReal) else ⊥))
    = ((if M t then Real.exp (σ t) else 0 : ℝ) : EReal) := by
  by_cases h : M t = true
  · simp [h]
  · simp [h]

theorem exp_cut (μ : ℝ) (t : ι) : Ideal.exp (cut σ M t - (μ : EReal))
    = (((if M t then Real.exp (σ t) else 0) * Real.exp (-μ) : ℝ) : EReal) := by
  unfold cut
  by_cases h : M t = true
  · simp only [h, if_true]
    rw [← EReal.coe_sub, Ideal.exp_coe, ← Real.exp_add, sub_eq_add_neg]
  · simp [h]

/-- The maximum of a row with a kept entry is a real. -/
theorem max_real (t0 : ι) (h0 : M t0 = true) : IsReal (Finset.univ.fold max ⊥ (cut σ M)) := by
  have hs : Finset.univ.fold max ⊥ (cut σ M) = Finset.univ.sup (cut σ M) := rfl
  rw [hs]
  obtain ⟨t, -, ht⟩ := Finset.exists_mem_eq_sup Finset.univ ⟨t0, Finset.mem_univ t0⟩ (cut σ M)
  have hle : cut σ M t0 ≤ Finset.univ.sup (cut σ M) := Finset.le_sup (Finset.mem_univ t0)
  rw [ht] at hle ⊢
  by_cases h : M t = true
  · exact ⟨σ t, by simp [cut, h]⟩
  · exfalso
    simp [cut, h, h0] at hle

theorem row_eq (t0 : ι) (h0 : M t0 = true) (v : ι → EReal) :
    (∑ t, Ideal.exp ((σ t : EReal) + (if M t then (0 : EReal) else ⊥)) * v t)
        * Ideal.div 1 (∑ t, Ideal.exp ((σ t : EReal) + (if M t then (0 : EReal) else ⊥)))
      = ∑ t, v t * Ideal.div (Ideal.exp (cut σ M t - Finset.univ.fold max ⊥ (cut σ M)))
          (∑ t, Ideal.exp (cut σ M t - Finset.univ.fold max ⊥ (cut σ M))) := by
  obtain ⟨μ, hμ⟩ := max_real σ M t0 h0
  rw [hμ]
  simp only [exp_bias, exp_cut]
  rw [coe_sum, coe_sum]
  have hnn : ∀ t, 0 ≤ (if M t then Real.exp (σ t) else 0) := fun t => by
    split
    · exact (Real.exp_pos _).le
    · exact le_rfl
  have hZ : 0 < ∑ t, (if M t then Real.exp (σ t) else 0) :=
    Finset.sum_pos' (fun t _ => hnn t) ⟨t0, Finset.mem_univ t0, by simp [h0, Real.exp_pos]⟩
  have hU : (∑ t, (if M t then Real.exp (σ t) else 0) * Real.exp (-μ)) ≠ 0 := by
    rw [← Finset.sum_mul]
    exact (mul_pos hZ (Real.exp_pos _)).ne'
  rw [Ideal.div_coe hZ.ne', one_mul, sum_mul_coe _ _ (one_div_nonneg.mpr hZ.le)]
  refine Finset.sum_congr rfl fun t _ => ?_
  rw [Ideal.div_coe hU, ← Finset.sum_mul, mul_comm _ (v t), mul_assoc, ← EReal.coe_mul, ← EReal.coe_mul]
  congr 2
  have he : Real.exp (-μ) ≠ 0 := (Real.exp_pos _).ne'
  have hz := hZ.ne'
  generalize (∑ t, (if M t then Real.exp (σ t) else 0)) = Z at hz ⊢
  field_simp

end Row

/-- A sum over 4096 entries, chunk by chunk. -/
theorem sum_chunks {A : Type} [AddCommMonoid A] (f : Fin 4096 → A) :
    (∑ k, f k) = ∑ j : Fin 4, ∑ l : Fin 1024, f ⟨1024 * j.val + l.val, by omega⟩ := by
  rw [← Finset.sum_product', ← (finProdFinEquiv (m := 4) (n := 1024)).sum_comp]
  refine Finset.sum_congr rfl fun p _ => congrArg f (Fin.ext ?_)
  simp [finProdFinEquiv, add_comm]

/-- The pairs of a row and a key that the block mask keeps. -/
def kept (i t : Nat) : Bool := decide (i / 64 = t / 64 ∨ t / 64 = 0 ∨ (i / 64 + t / 64) % 3 = 0)

theorem kept_zero (i : Nat) : kept i 0 = true := by simp [kept]

theorem select_if (b : Bool) (x y : EReal) : Scalar.select (if b then 1#1 else 0#1) x y = if b then x else y := by
  cases b <;> rfl

/-- The scale of the scores is a real. -/
theorem scale_real : IsReal (Ideal.ofBits .f32 0x3DB504F3#32) := by
  simp only [Ideal.ofBits, Ideal.ieee]
  norm_num
  exact ⟨_, rfl⟩

end Cert.Attn

end
-- ==== Proof.PreFacts.lean ====
/- The side conditions of the precondition's two printed functions, and what the precondition says of the entries. -/
module

public import proofs.«01_k».proof.Pre_finite_inputs_KernelIdeal
public import proofs.«01_k».proof.Pre_finite_inputs_ReferenceIdeal
public import proofs.«01_k».proof.Proof.ValueMath
public import Idealize.ShloMosaic.Lib.ReduceAll

@[expose] public section

noncomputable section

open Idealize.ShloMosaic

instance Cert.Pre_finite_inputs_KernelIdeal.facts : Cert.Pre_finite_inputs_KernelIdeal.Facts where
  bcast_S_S1x1024x1024 := by decide
  reducesTo_S1x1024x1024_S_d0_1_2 := by decide
  h_S_ := by decide
  bcast_S_S1024x1024 := by decide
  reducesTo_S1024x1024_S_d0_1 := by decide
  bcast_S_S1x1024x32x128 := by decide
  reducesTo_S1x1024x32x128_S_d0_1_2_3 := by decide

instance Cert.Pre_finite_inputs_ReferenceIdeal.facts : Cert.Pre_finite_inputs_ReferenceIdeal.Facts where
  bcast_S_S1x4096x1024 := by decide
  reducesTo_S1x4096x1024_S_d0_1_2 := by decide
  h_S_ := by decide
  bcast_S_S1024x4096 := by decide
  reducesTo_S1024x4096_S_d0_1 := by decide
  bcast_S_S1x1024x32x128 := by decide
  reducesTo_S1x1024x32x128_S_d0_1_2_3 := by decide

namespace Cert.Attn

/-- A comparison of a magnitude with infinity that came out true is of a real. -/
theorem IsReal.of_cmp {x y : EReal} (hy : y = Ideal.ofBits .f32 0x7F800000#32)
    (h : FloatOps.cmpf (F := Ideal) (φ := .f32) .olt (max x (-x)) y = 1#1) : IsReal x := by
  have ht : Ideal.ofBits .f32 0x7F800000#32 = ⊤ := by simp [Ideal.ofBits, Ideal.ieee]
  rw [hy, ht, Ideal.cmpf_def] at h
  refine IsReal.of_abs_lt ?_
  by_contra hn
  simp [Ideal.cmp, hn] at h

theorem and_one {a b : BitVec 1} (h : IntOp.andi a b = 1#1) : a = 1#1 ∧ b = 1#1 := by
  revert a b; decide

end Cert.Attn

namespace Cert.Pre_finite_inputs_KernelIdeal

open Facts Cert.Attn

theorem reals (x : FVec Ideal S1x1024x1024 .f32) (wq : FVec Ideal S1024x1024 .f32) (k v : FVec Ideal S1x1024x32x128 .f32)
    (wo : FVec Ideal S1024x1024 .f32) (h : fn (F := Ideal) x wq k v wo = fun _ => 1#1) :
    (∀ i, IsReal (x i)) ∧ (∀ i, IsReal (wq i)) ∧ (∀ i, IsReal (k i)) := by
  have h0 := congrFun h ix0
  obtain ⟨h1, hk⟩ := and_one h0
  obtain ⟨hx, hq⟩ := and_one h1
  haveI : Subsingleton S_.Idx := ⟨fun a b => funext fun d => d.elim0⟩
  exact ⟨fun i => IsReal.of_cmp rfl (Host.reduce_andi_all _ _ _ _ _ hx i),
    fun i => IsReal.of_cmp rfl (Host.reduce_andi_all _ _ _ _ _ hq i),
    fun i => IsReal.of_cmp rfl (Host.reduce_andi_all _ _ _ _ _ hk i)⟩

end Cert.Pre_finite_inputs_KernelIdeal

end
-- ==== Proof.KernelIdealValue.lean ====
module

public import proofs.«01_k».proof.Proof.KernelIdealLaunch
public import proofs.«01_k».proof.Proof.ValueMath

@[expose] public section

noncomputable section

namespace Cert.KernelIdeal.RingAttn

open Cert.KernelIdeal Cert.KernelIdeal.Gen
open Idealize.ShloMosaic Idealize.ShloMosaic.TcCoe Idealize.SL.Sem Cert.Attn

theorem pay5_apply (w : FVec Ideal S1024x1024 .f32) (z : Fin 1) (i j : Fin 1024) : (k0_pay5 (F := Ideal) w (ix3 z i j) : EReal) = w (ix2 i j) := by
  pointwise [k0_pay5]

theorem pay6_apply (w : FVec Ideal S1024x1024 .f32) (z : Fin 1) (i j : Fin 1024) : (k0_pay6 (F := Ideal) w (ix3 z i j) : EReal) = w (ix2 i j) := by
  pointwise [k0_pay6]

theorem pay13_apply (w : FVec Ideal S1x1024x1024 .f32) (i j : Fin 1024) : (k0_pay13 (F := Ideal) w (ix2 i j) : EReal) = w (ix3 0 i j) := by
  pointwise [k0_pay13]

theorem pay12_apply (i j : Fin 1024) : k0_pay12 (F := Ideal) (ix2 i j) = 0 := by
  pointwise [k0_pay12]

theorem pay14_apply (x : FVec Ideal S1024x1024 .bf16) (w : FVec Ideal S1x1024x1024 .bf16) (i j : Fin 1024) :
    (k0_pay14 (F := Ideal) x w (ix2 i j) : EReal) = (∑ d : Fin 1024, x (ix2 i d) * w (ix3 0 d j)) * Ideal.ofBits .f32 0x3DB504F3#32 := by
  pointwise [k0_pay14]

theorem pay16_apply (a : FVec Ideal S1024x1024 .f32) (x : FVec Ideal S1024x1024 .bf16) (w : FVec Ideal S1x1024x1024 .bf16)
    (i j : Fin 1024) : k0_pay16 a x w (ix2 i j) = a (ix2 i j) + ∑ d : Fin 1024, x (ix2 i d) * w (ix3 0 d j) := by
  pointwise [k0_pay16]

theorem pay15_apply (q : FVec Ideal S1024x128 .bf16) (k : FVec Ideal S1x1024x128 .f32) (b : FVec Ideal S1024x1024 .f32)
    (v : FVec Ideal S1x1024x128 .f32) (i : Fin 1024) (e : Fin 128) :
    (k0_pay15 (F := Ideal) q k b v (ix2 i e) : EReal)
      = (∑ t : Fin 1024, Ideal.exp ((∑ d : Fin 128, q (ix2 i d) * k (ix3 0 t d)) + b (ix2 i t)) * v (ix3 0 t e))
        * Ideal.div 1 (∑ t : Fin 1024, Ideal.exp ((∑ d : Fin 128, q (ix2 i d) * k (ix3 0 t d)) + b (ix2 i t))) := by
  pointwise [k0_pay15]

variable (m : (ℓ : Loc nD τ sig) → Buf (Elt Ideal) ℓ) (ρ : Dev nD → PrngReg)

theorem hvec_false (c : Dev nD) (h : Fin 32) (z : Fin 1) (t : Fin 1024) (e : Fin 128) :
    (hvec m false c h : FVec Ideal S1x1024x128 .f32) (ix3 z t e) = (m ((c : Thread nD τ).loc main_arg2) : FVec Ideal S1x1024x32x128 .f32) (ix4 0 t h e) := by
  have h1 : (hvec m false c h : FVec Ideal S1x1024x128 .f32) = shapeCast S1x1024x128 (shapeCast S1024x128
      (fun y : S1x1024x1x128.Idx => (m ((c : Thread nD τ).loc main_arg2) : FVec Ideal S1x1024x32x128 .f32) ((winRect h).emb y) : FVec Ideal S1x1024x1x128 .f32)
      squeezes_S1x1024x1x128_S1024x128.numel_eq) squeezes_S1x1024x128_S1024x128.numel_eq.symm := rfl
  rw [h1]
  pointwise []
  refine congrArg (m ((c : Thread nD τ).loc main_arg2)) (funext fun a => Fin.ext ?_)
  rw [Rect.emb_apply]
  fin_cases a
  · rfl
  · show 0 + 1 * t.val = t.val; omega
  · show h.val + 1 * 0 = h.val; omega
  · show 0 + 1 * e.val = e.val; omega

theorem hvec_true (c : Dev nD) (h : Fin 32) (z : Fin 1) (t : Fin 1024) (e : Fin 128) :
    (hvec m true c h : FVec Ideal S1x1024x128 .f32) (ix3 z t e) = (m ((c : Thread nD τ).loc main_arg3) : FVec Ideal S1x1024x32x128 .f32) (ix4 0 t h e) := by
  have h1 : (hvec m true c h : FVec Ideal S1x1024x128 .f32) = shapeCast S1x1024x128 (shapeCast S1024x128
      (fun y : S1x1024x1x128.Idx => (m ((c : Thread nD τ).loc main_arg3) : FVec Ideal S1x1024x32x128 .f32) ((winRect h).emb y) : FVec Ideal S1x1024x1x128 .f32)
      squeezes_S1x1024x1x128_S1024x128.numel_eq) squeezes_S1x1024x128_S1024x128.numel_eq.symm := rfl
  rw [h1]
  pointwise []
  refine congrArg (m ((c : Thread nD τ).loc main_arg3)) (funext fun a => Fin.ext ?_)
  rw [Rect.emb_apply]
  fin_cases a
  · rfl
  · show 0 + 1 * t.val = t.val; omega
  · show h.val + 1 * 0 = h.val; omega
  · show 0 + 1 * e.val = e.val; omega

theorem wqs_apply (d : Dev nD) (i j : Fin 1024) :
    (wqs m ρ d : FVec Ideal S1024x1024 .f32) (ix2 i j) = (m ((d : Thread nD τ).loc main_arg1) : FVec Ideal S1024x1024 .f32) (ix2 i j) := by
  have hi : ∀ (t : Fin cfg0.N) (a : Fin 2), win0_1.index t a = 0 := by decide +kernel
  have hy : ∀ y, (win0_1.blk (0 : Fin 1)).view.emb y = y := fun y => by
    funext a; refine Fin.ext ?_
    blk_simp
    rw [show win0_1.index (0 : Fin 1) a = 0 from hi (0 : Fin 1) a, zero_mul, zero_add]
  exact congrArg (m ((d : Thread nD τ).loc main_arg1)) (hy _)

theorem wos_apply (d : Dev nD) (i j : Fin 1024) :
    (wos m ρ d : FVec Ideal S1024x1024 .f32) (ix2 i j) = (m ((d : Thread nD τ).loc main_arg4) : FVec Ideal S1024x1024 .f32) (ix2 i j) := by
  have hi : ∀ (t : Fin cfg0.N) (a : Fin 2), win0_2.index t a = 0 := by decide +kernel
  have hy : ∀ y, (win0_2.blk (0 : Fin 1)).view.emb y = y := fun y => by
    funext a; refine Fin.ext ?_
    blk_simp
    rw [show win0_2.index (0 : Fin 1) a = 0 from hi (0 : Fin 1) a, zero_mul, zero_add]
  exact congrArg (m ((d : Thread nD τ).loc main_arg4)) (hy _)

theorem xs_apply (d : Dev nD) (z : Fin 1) (i j : Fin 1024) :
    (xs m ρ d : FVec Ideal S1x1024x1024 .f32) (ix3 z i j) = (m ((d : Thread nD τ).loc main_arg0) : FVec Ideal S1x1024x1024 .f32) (ix3 z i j) := by
  have hi : ∀ (t : Fin cfg0.N) (a : Fin 3), win0_0.index t a = 0 := by decide +kernel
  have hy : ∀ y, (win0_0.blk (0 : Fin 1)).view.emb y = y := fun y => by
    funext a; refine Fin.ext ?_
    blk_simp
    rw [show win0_0.index (0 : Fin 1) a = 0 from hi (0 : Fin 1) a, zero_mul, zero_add]
  exact congrArg (m ((d : Thread nD τ).loc main_arg0)) (hy _)

/-- The kernel's floor division by 64, on a word. -/
def kfloor (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

set_option maxRecDepth 100000 in
theorem kfloor_eq : ∀ i : Fin 4096, kfloor (BitVec.ofNat 32 i.val) = BitVec.ofNat 32 (i.val / 64) := by
  decide +kernel

/-- The kernel's mask of one pair of blocks, on words. -/
def kmaskWord (a b : BitVec 32) : BitVec 1 :=
  IntOp.ori (IntOp.ori (IntOp.cmpi .eq a b) (IntOp.cmpi .eq b 0#32))
    (IntOp.cmpi .eq (IntOp.remsi .vector (IntOp.addi a b) 3#32) 0#32)

theorem kmaskWord_eq : ∀ (a : Fin 64) (b : Fin 16), kmaskWord (BitVec.ofNat 32 a.val) (BitVec.ofNat 32 b.val)
    = if (decide (a.val = b.val ∨ b.val = 0 ∨ (a.val + b.val) % 3 = 0)) then 1#1 else 0#1 := by
  decide +kernel

theorem devW_eq : ∀ d : Dev nD, Scalar.muli (devW d) 1024#32 = BitVec.ofNat 32 (1024 * d.val) := by
  decide +kernel

theorem bias_apply (d : Dev nD) (i t : Fin 1024) :
    (biasv (F := Ideal) d : FVec Ideal S1024x1024 .f32) (ix2 i t) = if kept (1024 * d.val + i.val) t.val then (0 : EReal) else ⊥ := by
  have hd : d.val < 4 := d.isLt
  have h : (biasv (F := Ideal) d : FVec Ideal S1024x1024 .f32) (ix2 i t)
      = Scalar.select (kmaskWord (kfloor (IntOp.addi (Scalar.muli (devW d) 1024#32) (BitVec.ofNat 32 i.val)))
          (kfloor (BitVec.ofNat 32 t.val))) (0 : EReal) (Named.named (F := Ideal) κ "mask" (φ := .f32) 0xCE6E6B28#32) := by
    unfold biasv
    pointwise [k0_pay11, k0_pay8, k0_pay9, k0_pay10, k0_pay7]
    rfl
  have ha : IntOp.addi (Scalar.muli (devW d) 1024#32) (BitVec.ofNat 32 i.val) = BitVec.ofNat 32 (1024 * d.val + i.val) := by
    rw [devW_eq, BitVec.ofNat_add]
    rfl
  have hm : (Named.named (F := Ideal) κ "mask" (φ := .f32) 0xCE6E6B28#32) = (⊥ : EReal) := rfl
  rw [h, ha, kfloor_eq ⟨1024 * d.val + i.val, by omega⟩, kfloor_eq ⟨t.val, by omega⟩, hm,
    kmaskWord_eq ⟨(1024 * d.val + i.val) / 64, by omega⟩ ⟨t.val / 64, by omega⟩]
  exact select_if _ _ _

/-! ### The result -/

/-- The five arrays of a device. -/
def inX (c : Dev nD) : FVec Ideal S1x1024x1024 .f32 := m ((c : Thread nD τ).loc main_arg0)
def inWq (c : Dev nD) : FVec Ideal S1024x1024 .f32 := m ((c : Thread nD τ).loc main_arg1)
def inK (c : Dev nD) : FVec Ideal S1x1024x32x128 .f32 := m ((c : Thread nD τ).loc main_arg2)
def inV (c : Dev nD) : FVec Ideal S1x1024x32x128 .f32 := m ((c : Thread nD τ).loc main_arg3)
def inWo (c : Dev nD) : FVec Ideal S1024x1024 .f32 := m ((c : Thread nD τ).loc main_arg4)

/-- A head's columns of a chunk's queries. -/
theorem readCols_apply (qv : FVec Ideal S1024x1024 .bf16) (k : Fin 8) (i : Fin 1024) (e : Fin 128) :
    (qM.view.readAt (Elt Ideal) (colRect k).toLoadRect qv : FVec Ideal S1024x128 .bf16) (ix2 i e)
      = qv (ix2 i ⟨128 * k.val + e.val, by omega⟩) := by
  refine congrArg qv (funext fun a => Fin.ext ?_)
  fin_cases a
  · show 0 + 1 * i.val = i.val; omega
  · show 128 * k.val + 1 * e.val = 128 * k.val + e.val; omega

/-- The queries of chunk `j` on device `c`. -/
def qk (c : Dev nD) (j : Fin 4) (i l : Fin 1024) : EReal :=
  (∑ d : Fin 1024, (inX m c (ix3 0 i d) : EReal)
    * (inWq m j (ix2 d l) : EReal)) * Ideal.ofBits .f32 0x3DB504F3#32

theorem qch_apply (c : Dev nD) (j : Fin 4) (i l : Fin 1024) :
    (qch m ρ c j : FVec Ideal S1024x1024 .bf16) (ix2 i l) = qk m c j i l := by
  unfold qch xb pay qk
  rw [pay14_apply]
  simp only [pay13_apply, pay5_apply]
  congr 1
  exact Finset.sum_congr rfl fun d _ => congrArg₂ (· * ·) (xs_apply m ρ c 0 i d) (wqs_apply m ρ j d l)

/-- The score of row `i` and key `t` in the head of column `l` of chunk `j`. -/
def sk (c : Dev nD) (j : Fin 4) (i l t : Fin 1024) : EReal :=
  ∑ e : Fin 128, qk m c j i ⟨128 * (l.val / 128) + e.val, by omega⟩
    * (inK m c (ix4 0 t ⟨8 * j.val + l.val / 128, by omega⟩ e) : EReal)

/-- The attention of row `i` at column `l` of chunk `j`. -/
def ck (c : Dev nD) (j : Fin 4) (i l : Fin 1024) : EReal :=
  (∑ t : Fin 1024, Ideal.exp (sk m c j i l t + (if kept (1024 * c.val + i.val) t.val then (0 : EReal) else ⊥))
      * (inV m c (ix4 0 t ⟨8 * j.val + l.val / 128, by omega⟩ ⟨l.val % 128, by omega⟩) : EReal))
    * Ideal.div 1 (∑ t : Fin 1024, Ideal.exp (sk m c j i l t + (if kept (1024 * c.val + i.val) t.val then (0 : EReal) else ⊥)))

theorem ctxv_apply (c : Dev nD) (j : Fin 4) (i l : Fin 1024) :
    (ctxv m c (qch m ρ c j) (biasv (F := Ideal) c) j : FVec Ideal S1024x1024 .bf16) (ix2 i l) = ck m c j i l := by
  have h1 : (ctxv m c (qch m ρ c j) (biasv (F := Ideal) c) j : FVec Ideal S1024x1024 .bf16) (ix2 i l)
      = headOut m c (qch m ρ c j) (biasv (F := Ideal) c) (hd j ⟨l.val / 128, by omega⟩) ⟨l.val / 128, by omega⟩
          (ix2 i ⟨l.val % 128, by omega⟩) := by
    have h2 : colIn (ix2 i l) = ix2 i ⟨l.val % 128, by omega⟩ := by
      funext a; fin_cases a <;> rfl
    exact congrArg (headOut m c (qch m ρ c j) (biasv (F := Ideal) c) (hd j ⟨l.val / 128, by omega⟩) ⟨l.val / 128, by omega⟩) h2
  rw [h1]
  unfold headOut
  rw [pay15_apply]
  have hs : ∀ t : Fin 1024, (∑ e : Fin 128,
      (qM.view.readAt (Elt Ideal) (colRect ⟨l.val / 128, by omega⟩).toLoadRect (qch m ρ c j) : FVec Ideal S1024x128 .bf16) (ix2 i e)
        * (hvec m false c (hd j ⟨l.val / 128, by omega⟩) : FVec Ideal S1x1024x128 .f32) (ix3 0 t e)) = sk m c j i l t := fun t =>
    Finset.sum_congr rfl fun e _ => congrArg₂ (· * ·)
      ((readCols_apply _ _ i e).trans (qch_apply m ρ c j i _)) (hvec_false m c _ 0 t e)
  have hb : ∀ t : Fin 1024, (biasv (F := Ideal) c : FVec Ideal S1024x1024 .f32) (ix2 i t)
      = if kept (1024 * c.val + i.val) t.val then (0 : EReal) else ⊥ := fun t => bias_apply c i t
  simp only [hs, hb]
  unfold ck
  congr 1
  exact Finset.sum_congr rfl fun t _ => congrArg₂ (· * ·) rfl (hvec_true m c _ 0 t _)

theorem outS_apply (c : Dev nD) (a : FVec Ideal S1024x1024 .f32) (j : Fin 4) (i n : Fin 1024) :
    (outS m ρ c (biasv (F := Ideal) c) a j : FVec Ideal S1024x1024 .f32) (ix2 i n)
      = a (ix2 i n) + ∑ l : Fin 1024, ck m c j i l
          * (inWo m j (ix2 l n) : EReal) := by
  unfold outS pay
  rw [pay16_apply]
  simp only [pay6_apply]
  congr 1
  exact Finset.sum_congr rfl fun l _ => congrArg₂ (· * ·) (ctxv_apply m ρ c j i l) (wos_apply m ρ j l n)

theorem outv_apply (c : Dev nD) (i n : Fin 1024) :
    (outv m ρ c : FVec Ideal S1024x1024 .f32) (ix2 i n)
      = ∑ j : Fin 4, ∑ l : Fin 1024, ck m c j i l
          * (inWo m j (ix2 l n) : EReal) := by
  unfold outv
  rw [outS_apply, outS_apply, outS_apply, outS_apply, pay12_apply, zero_add]
  have key : ∀ f : Fin 4 → EReal, f (src c 0) + f (src c 1) + f (src c 2) + f (src c 3) = ∑ j, f j := fun f => by
    rw [Fin.sum_univ_four]
    fin_cases c
    · show f 0 + f 3 + f 2 + f 1 = _; ac_rfl
    · show f 1 + f 0 + f 3 + f 2 = _; ac_rfl
    · show f 2 + f 1 + f 0 + f 3 = _; ac_rfl
    · show f 3 + f 2 + f 1 + f 0 = _; ac_rfl
  exact key (fun j => ∑ l : Fin 1024, ck m c j i l * (inWo m j (ix2 l n) : EReal))

end Cert.KernelIdeal.RingAttn

end
-- ==== Proof.RefStages.lean ====
/- The reference's result as a tower of named stages, each a function of the stages before it. -/
module

public import proofs.«01_k».proof.Proof.Gen.ReferenceIdeal.Run

@[expose] public section

noncomputable section

namespace Cert.ReferenceIdeal.Attn

open Cert.ReferenceIdeal Cert.ReferenceIdeal.Gen Idealize.ShloMosaic Idealize.ShloMosaic.TcCoe Idealize.SL.Sem

variable {F : FTy → Type} [FloatOps F]

/-- `arange(4096) // 64`. -/
def rowBlk : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32))))
        (broadcastInDim S4096 ![] bcast_S_S4096 (constantI S_ 32 0#32))))
    (subi (Host.divsi (iotaInDim S4096 32 0) (broadcastInDim S4096 ![] bcast_S_S4096 (id (constantI S_ 32 64#32))))
      (broadcastInDim S4096 ![] bcast_S_S4096 (constantI S_ 32 1#32)))
    (Host.divsi (iotaInDim S4096 32 0) (broadcastInDim S4096 ![] bcast_S_S4096 (id (constantI S_ 32 64#32))))

/-- `arange(1024) // 64`. -/
def colBlk : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32))))
        (broadcastInDim S1024 ![] bcast_S_S1024 (constantI S_ 32 0#32))))
    (subi (Host.divsi (iotaInDim S1024 32 0) (broadcastInDim S1024 ![] bcast_S_S1024 (id (constantI S_ 32 64#32))))
      (broadcastInDim S1024 ![] bcast_S_S1024 (constantI S_ 32 1#32)))
    (Host.divsi (iotaInDim S1024 32 0) (broadcastInDim S1024 ![] bcast_S_S1024 (id (constantI S_ 32 64#32))))

/-- The row blocks as a column, the column blocks as a row. -/
def rowB : IVec S4096x1 32 := broadcastInDim S4096x1 ![0] bcast_S4096_S4096x1_0 rowBlk
def colB : IVec S1x1024 32 := broadcastInDim S1x1024 ![1] bcast_S1024_S1x1024_1 colBlk

/-- The divisor 3, through jax's guard against a zero divisor. -/
def three : IVec S_ 32 :=
  select (cmpi .eq (id (constantI S_ 32 3#32)) (constantI S_ 32 0#32)) (constantI S_ 32 1#32) (id (constantI S_ 32 3#32))

def blkSum : IVec S4096x1024 32 :=
  addi (broadcastInDim S4096x1024 ![0, 1] bcast_S4096x1_S4096x1024_0_1 rowB)
    (broadcastInDim S4096x1024 ![0, 1] bcast_S1x1024_S4096x1024_0_1 colB)

/-- `blkSum` rem 3 with the dividend's sign. -/
def rem3 : IVec S4096x1024 32 :=
  Host.remsi blkSum (broadcastInDim S4096x1024 ![] bcast_S_S4096x1024 three)

/-- `blkSum % 3`. -/
def mod3 : IVec S4096x1024 32 :=
  select (andi (cmpi .ne (cmpi .slt rem3 (broadcastInDim S4096x1024 ![] bcast_S_S4096x1024 (constantI S_ 32 0#32)))
        (broadcastInDim S4096x1024 ![] bcast_S_S4096x1024 (cmpi .slt three (constantI S_ 32 0#32))))
      (cmpi .ne rem3 (broadcastInDim S4096x1024 ![] bcast_S_S4096x1024 (constantI S_ 32 0#32))))
    (addi rem3 (broadcastInDim S4096x1024 ![] bcast_S_S4096x1024 three)) rem3

def mask : IVec S4096x1024 1 :=
  ori (ori (cmpi .eq (broadcastInDim S4096x1024 ![0, 1] bcast_S4096x1_S4096x1024_0_1 rowB)
        (broadcastInDim S4096x1024 ![0, 1] bcast_S1x1024_S4096x1024_0_1 colB))
      (broadcastInDim S4096x1024 ![0, 1] bcast_S1x1024_S4096x1024_0_1
        (cmpi .eq colB (broadcastInDim S1x1024 ![] bcast_S_S1x1024 (constantI S_ 32 0#32)))))
    (cmpi .eq mod3 (broadcastInDim S4096x1024 ![] bcast_S_S4096x1024 (constantI S_ 32 0#32)))

/-- `mask.any(axis=1)`. -/
def keep : IVec S4096 1 := Host.reduce IntOp.ori mask (constantI S_ 1 0#1) reducesTo_S4096x1024_S4096_d1 h_S_

def keepC : IVec S1x1x4096x1 1 := broadcastInDim S1x1x4096x1 ![2] bcast_S4096_S1x1x4096x1_2 keep

def queries (x : FVec F S1x4096x1024 .f32) (wq : FVec F S1024x4096 .f32) : FVec F S1x4096x32x128 .f32 :=
  shapeCast _ (Host.dotGeneral dot_S1x4096x1024_S1024x4096_S1x4096x4096_2_0_01_1_n_n none x wq) shapeCasts_S1x4096x4096_S1x4096x32x128

def scores (q : FVec F S1x4096x32x128 .f32) (k : FVec F S1x1024x32x128 .f32) : FVec F S1x32x4096x1024 .f32 :=
  mulf (Host.dotGeneral dot_S1x4096x32x128_S1x1024x32x128_S1x32x4096x1024_3_3_1_1_02_02 none q k)
    (broadcastInDim S1x32x4096x1024 ![] bcast_S_S1x32x4096x1024 (constant S_ .f32 0x3DB504F3#32))

def masked (s : FVec F S1x32x4096x1024 .f32) : FVec F S1x32x4096x1024 .f32 :=
  select (broadcastInDim S1x32x4096x1024 ![0, 1, 2, 3] bcast_S1x1x4096x1024_S1x32x4096x1024_0_1_2_3
      (broadcastInDim S1x1x4096x1024 ![2, 3] bcast_S4096x1024_S1x1x4096x1024_2_3 mask)) s
    (broadcastInDim S1x32x4096x1024 ![] bcast_S_S1x32x4096x1024 (id (constant S_ .f32 0xFF800000#32)))

def rowMax (s : FVec F S1x32x4096x1024 .f32) : FVec F S1x32x4096 .f32 :=
  Host.reduce FloatOps.maximumf s (constant S_ .f32 0xFF800000#32) reducesTo_S1x32x4096x1024_S1x32x4096_d3 h_S_

def expd (s : FVec F S1x32x4096x1024 .f32) (mx : FVec F S1x32x4096 .f32) : FVec F S1x32x4096x1024 .f32 :=
  Host.exp (subf s (broadcastInDim S1x32x4096x1024 ![0, 1, 2, 3] bcast_S1x32x4096x1_S1x32x4096x1024_0_1_2_3
    (broadcastInDim S1x32x4096x1 ![0, 1, 2] bcast_S1x32x4096_S1x32x4096x1_0_1_2 mx)))

def rowSum (w : FVec F S1x32x4096x1024 .f32) : FVec F S1x32x4096 .f32 :=
  Host.reduceAdd w (constant S_ .f32 0x00000000#32) reducesTo_S1x32x4096x1024_S1x32x4096_d3 h_S_

def denom (sm : FVec F S1x32x4096 .f32) : FVec F S1x32x4096x1 .f32 :=
  select (broadcastInDim S1x32x4096x1 ![0, 1, 2, 3] bcast_S1x1x4096x1_S1x32x4096x1_0_1_2_3 keepC)
    (broadcastInDim S1x32x4096x1 ![0, 1, 2] bcast_S1x32x4096_S1x32x4096x1_0_1_2 sm)
    (broadcastInDim S1x32x4096x1 ![] bcast_S_S1x32x4096x1 (id (constant S_ .f32 0x3F800000#32)))

def weights (w : FVec F S1x32x4096x1024 .f32) (dn : FVec F S1x32x4096x1 .f32) : FVec F S1x32x4096x1024 .f32 :=
  select (broadcastInDim S1x32x4096x1024 ![0, 1, 2, 3] bcast_S1x1x4096x1_S1x32x4096x1024_0_1_2_3 keepC)
    (Host.divf w (broadcastInDim S1x32x4096x1024 ![0, 1, 2, 3] bcast_S1x32x4096x1_S1x32x4096x1024_0_1_2_3 dn))
    (broadcastInDim S1x32x4096x1024 ![] bcast_S_S1x32x4096x1024 (id (constant S_ .f32 0x00000000#32)))

def context (v : FVec F S1x1024x32x128 .f32) (w : FVec F S1x32x4096x1024 .f32) : FVec F S1x4096x4096 .f32 :=
  shapeCast _ (transpose S1x4096x32x128 [0, 3, 1, 2]
    (Host.dotGeneral dot_S1x1024x32x128_S1x32x4096x1024_S1x32x128x4096_1_3_3_2_02_01 none v w)
    transposes_S1x32x128x4096_S1x4096x32x128_0_3_1_2) shapeCasts_S1x4096x32x128_S1x4096x4096

def product (ctx : FVec F S1x4096x4096 .f32) (wo : FVec F S4096x1024 .f32) : FVec F S4096x1024 .f32 :=
  shapeCast _ (Host.dotGeneral dot_S1x4096x4096_S4096x1024_S1x4096x1024_2_0_01_1_n_n none ctx wo) shapeCasts_S1x4096x1024_S4096x1024

/-- The exponentials and the weights of the masked scores `s`. -/
def expOf (s : FVec F S1x32x4096x1024 .f32) : FVec F S1x32x4096x1024 .f32 := expd s (rowMax s)
def weightsOf (s : FVec F S1x32x4096x1024 .f32) : FVec F S1x32x4096x1024 .f32 := weights (expOf s) (denom (rowSum (expOf s)))

/-- The reference's result as a function of its five arguments. -/
def result (x : FVec F S1x4096x1024 .f32) (wq : FVec F S1024x4096 .f32) (k v : FVec F S1x1024x32x128 .f32)
    (wo : FVec F S4096x1024 .f32) : FVec F S4096x1024 .f32 :=
  product (context v (weightsOf (masked (scores (queries x wq) k)))) wo

theorem res_eq (m : (ℓ : Loc nD τ sig) → Buf (Elt F) ℓ) (c : Dev nD) :
    Value.res_main_v45 m c = result (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v45 result
  rfl

end Cert.ReferenceIdeal.Attn

end
-- ==== Proof.RefValue.lean ====
/- The reference's stages read at an index: the result at a row and a column as sums over the model dimension, the keys
   and the heads. -/
module

public import proofs.«01_k».proof.Proof.RefStages
public import proofs.«01_k».proof.Proof.ValueMath

@[expose] public section

noncomputable section

namespace Cert.ReferenceIdeal.Attn

open Cert.ReferenceIdeal Cert.ReferenceIdeal.Gen Idealize.ShloMosaic Idealize.ShloMosaic.TcCoe Idealize.SL.Sem Cert.Attn

theorem queries_apply (x : FVec Ideal S1x4096x1024 .f32) (wq : FVec Ideal S1024x4096 .f32) (z : Fin 1) (i : Fin 4096)
    (h : Fin 32) (e : Fin 128) :
    queries x wq (ix4 z i h e) = ∑ d : Fin 1024, x (ix3 0 i d) * wq (ix2 d ⟨h.val * 128 + e.val, by omega⟩) := by
  pointwise [queries]

theorem scores_apply (q : FVec Ideal S1x4096x32x128 .f32) (k : FVec Ideal S1x1024x32x128 .f32) (z : Fin 1) (h : Fin 32)
    (i : Fin 4096) (j : Fin 1024) :
    scores q k (ix4 z h i j) = (∑ e : Fin 128, q (ix4 z i h e) * k (ix4 z j h e)) * Ideal.ofBits .f32 0x3DB504F3#32 := by
  pointwise [scores]

theorem masked_apply (s : FVec Ideal S1x32x4096x1024 .f32) (z : Fin 1) (h : Fin 32) (i : Fin 4096) (j : Fin 1024) :
    masked s (ix4 z h i j) = Scalar.select (mask (ix2 i j)) (s (ix4 z h i j)) (Ideal.ofBits .f32 0xFF800000#32) := by
  pointwise [masked]
  rfl

theorem rowMax_apply (s : FVec Ideal S1x32x4096x1024 .f32) (z : Fin 1) (h : Fin 32) (i : Fin 4096) :
    rowMax s (ix3 z h i)
      = Finset.fold max (Ideal.ofBits .f32 0xFF800000#32) (fun t : Fin 1024 => s (ix4 0 h i t)) Finset.univ := by
  pointwise [rowMax]

theorem keep_apply (i : Fin 4096) :
    keep (ix1 i) = Finset.fold IntOp.ori (0#1) (fun t : Fin 1024 => mask (ix2 i t)) Finset.univ := by
  pointwise [keep]

theorem expd_apply (s : FVec Ideal S1x32x4096x1024 .f32) (mx : FVec Ideal S1x32x4096 .f32) (z : Fin 1) (h : Fin 32)
    (i : Fin 4096) (j : Fin 1024) :
    expd s mx (ix4 z h i j) = Ideal.exp (s (ix4 z h i j) - mx (ix3 0 h i)) := by
  pointwise [expd]

theorem rowSum_apply (s : FVec Ideal S1x32x4096x1024 .f32) (z : Fin 1) (h : Fin 32) (i : Fin 4096) :
    rowSum s (ix3 z h i) = ∑ t : Fin 1024, s (ix4 0 h i t) := by
  pointwise [rowSum]

theorem denom_apply (s : FVec Ideal S1x32x4096 .f32) (z : Fin 1) (h : Fin 32) (i : Fin 4096) (z' : Fin 1) :
    denom s (ix4 z h i z') = Scalar.select (keep (ix1 i)) (s (ix3 0 h i)) (Ideal.ofBits .f32 0x3F800000#32) := by
  pointwise [denom, keepC]
  exact congrArg (Scalar.select _ _) Ideal.ofBits_one_f32

theorem weights_apply (w : FVec Ideal S1x32x4096x1024 .f32) (dn : FVec Ideal S1x32x4096x1 .f32) (z : Fin 1) (h : Fin 32)
    (i : Fin 4096) (j : Fin 1024) :
    weights w dn (ix4 z h i j)
      = Scalar.select (keep (ix1 i)) (Ideal.div (w (ix4 z h i j)) (dn (ix4 0 h i 0))) (Ideal.ofBits .f32 0x00000000#32) := by
  pointwise [weights, keepC]
  exact congrArg (Scalar.select _ _) Ideal.ofBits_zero_f32

theorem context_apply (v : FVec Ideal S1x1024x32x128 .f32) (w : FVec Ideal S1x32x4096x1024 .f32) (z : Fin 1) (i : Fin 4096)
    (n : Fin 4096) :
    context v w (ix3 z i n)
      = ∑ t : Fin 1024, v (ix4 0 t ⟨n.val / 128, by omega⟩ ⟨n.val % 128, by omega⟩) * w (ix4 0 ⟨n.val / 128, by omega⟩ i t) := by
  pointwise [context]

theorem product_apply (v : FVec Ideal S1x4096x4096 .f32) (w : FVec Ideal S4096x1024 .f32) (i : Fin 4096) (n : Fin 1024) :
    product v w (ix2 i n) = ∑ k : Fin 4096, v (ix3 0 i k) * w (ix2 k n) := by
  pointwise [product]

/-! ### The mask -/

set_option maxRecDepth 100000 in
theorem rowBlk_apply (i : Fin 4096) : rowBlk (ix1 i) = BitVec.ofNat 32 (i.val / 64) := by
  pointwise [rowBlk]
  change Scalar.select
      (IntOp.andi
        (IntOp.cmpi CmpIPredicate.ne
          (if BitVec.ofNat 32 ↑i = 0 then 0 else if (BitVec.ofNat 32 ↑i).msb = true then -1 else 1)
          (if (64#32) = 0 then 0 else if (64#32).msb = true then -1 else 1))
        (IntOp.cmpi CmpIPredicate.ne (IntOp.remsi ArithUnit.host (BitVec.ofNat 32 ↑i) 64#32) 0#32))
      (IntOp.subi (IntOp.divsi ArithUnit.host (BitVec.ofNat 32 ↑i) 64#32) 1#32)
      (IntOp.divsi ArithUnit.host (BitVec.ofNat 32 ↑i) 64#32) = _
  revert i
  decide +kernel

set_option maxRecDepth 100000 in
theorem colBlk_apply (i : Fin 1024) : colBlk (ix1 i) = BitVec.ofNat 32 (i.val / 64) := by
  pointwise [colBlk]
  change Scalar.select
      (IntOp.andi
        (IntOp.cmpi CmpIPredicate.ne
          (if BitVec.ofNat 32 ↑i = 0 then 0 else if (BitVec.ofNat 32 ↑i).msb = true then -1 else 1)
          (if (64#32) = 0 then 0 else if (64#32).msb = true then -1 else 1))
        (IntOp.cmpi CmpIPredicate.ne (IntOp.remsi ArithUnit.host (BitVec.ofNat 32 ↑i) 64#32) 0#32))
      (IntOp.subi (IntOp.divsi ArithUnit.host (BitVec.ofNat 32 ↑i) 64#32) 1#32)
      (IntOp.divsi ArithUnit.host (BitVec.ofNat 32 ↑i) 64#32) = _
  revert i
  decide +kernel

/-- The host's mask of one pair of blocks, on words. -/
def maskWord (a b : BitVec 32) : BitVec 1 :=
  IntOp.ori (IntOp.ori (IntOp.cmpi .eq a b) (IntOp.cmpi .eq b 0#32))
    (IntOp.cmpi .eq
      (Scalar.select
        (IntOp.andi
          (IntOp.cmpi .ne (IntOp.cmpi .slt (IntOp.remsi .host (IntOp.addi a b) 3#32) 0#32) (IntOp.cmpi .slt 3#32 0#32))
          (IntOp.cmpi .ne (IntOp.remsi .host (IntOp.addi a b) 3#32) 0#32))
        (IntOp.addi (IntOp.remsi .host (IntOp.addi a b) 3#32) 3#32)
        (IntOp.remsi .host (IntOp.addi a b) 3#32))
      0#32)

theorem maskWord_eq : ∀ (a : Fin 64) (b : Fin 16), maskWord (BitVec.ofNat 32 a.val) (BitVec.ofNat 32 b.val)
    = if (decide (a.val = b.val ∨ b.val = 0 ∨ (a.val + b.val) % 3 = 0)) then 1#1 else 0#1 := by
  decide +kernel

theorem three_apply : three ix0 = 3#32 := by
  decide +kernel

theorem mask_apply (i : Fin 4096) (t : Fin 1024) : mask (ix2 i t) = if kept i.val t.val then 1#1 else 0#1 := by
  have h : mask (ix2 i t) = maskWord (rowBlk (ix1 i)) (colBlk (ix1 t)) := by
    pointwise [mask, mod3, rem3, blkSum, rowB, colB, three_apply]
    rfl
  rw [h, rowBlk_apply, colBlk_apply]
  exact maskWord_eq ⟨i.val / 64, by omega⟩ ⟨t.val / 64, by omega⟩

theorem fold_ori {ι : Type} [Fintype ι] (f : ι → BitVec 1) (t : ι) (h : f t = 1#1) :
    Finset.fold IntOp.ori (0#1) f Finset.univ = 1#1 := by
  classical
  rw [← Finset.insert_erase (Finset.mem_univ t), Finset.fold_insert (Finset.notMem_erase _ _), h]
  generalize Finset.fold IntOp.ori (0#1) f (Finset.univ.erase t) = w
  revert w
  decide

theorem keep_eq (i : Fin 4096) : keep (ix1 i) = 1#1 := by
  rw [keep_apply]
  exact fold_ori _ 0 (by rw [mask_apply]; simp [kept_zero])

/-! ### The weights of a row and the result -/

theorem ofBits_neg_inf : Ideal.ofBits .f32 0xFF800000#32 = ⊥ := by simp [Ideal.ofBits, Ideal.ieee]

/-- The weights of a row whose scores are the reals `σ`. -/
theorem weightsOf_apply (s : FVec Ideal S1x32x4096x1024 .f32) (z : Fin 1) (h : Fin 32) (i : Fin 4096) (j : Fin 1024)
    (σ : Fin 1024 → ℝ) (hσ : ∀ t, s (ix4 0 h i t) = (σ t : EReal)) :
    weightsOf (masked s) (ix4 z h i j)
      = Ideal.div (Ideal.exp (cut σ (fun t => kept i.val t.val) j
            - Finset.univ.fold max ⊥ (cut σ fun t => kept i.val t.val)))
          (∑ t, Ideal.exp (cut σ (fun t => kept i.val t.val) t
            - Finset.univ.fold max ⊥ (cut σ fun t => kept i.val t.val))) := by
  have hm : ∀ (z : Fin 1) t, masked s (ix4 z h i t) = cut σ (fun t => kept i.val t.val) t := fun z t => by
    obtain rfl : z = 0 := Subsingleton.elim _ _
    rw [masked_apply, mask_apply, select_if, hσ, ofBits_neg_inf]
    rfl
  have he : ∀ (z : Fin 1) t, expOf (masked s) (ix4 z h i t) = Ideal.exp (cut σ (fun t => kept i.val t.val) t
      - Finset.univ.fold max ⊥ (cut σ fun t => kept i.val t.val)) := fun z t => by
    unfold expOf
    rw [expd_apply, hm, rowMax_apply, ofBits_neg_inf]
    congr 2
    congr 1
    funext t
    exact hm 0 t
  unfold weightsOf
  rw [weights_apply, denom_apply, keep_eq, he, rowSum_apply]
  change Ideal.div _ (∑ t, expOf (masked s) (ix4 0 h i t)) = _
  congr 1
  exact Finset.sum_congr rfl fun t _ => he 0 t

theorem result_apply (x : FVec Ideal S1x4096x1024 .f32) (wq : FVec Ideal S1024x4096 .f32) (k v : FVec Ideal S1x1024x32x128 .f32)
    (wo : FVec Ideal S4096x1024 .f32) (i : Fin 4096) (n : Fin 1024) :
    result x wq k v wo (ix2 i n)
      = ∑ p : Fin 4096, (∑ t : Fin 1024, v (ix4 0 t ⟨p.val / 128, by omega⟩ ⟨p.val % 128, by omega⟩)
          * weightsOf (masked (scores (queries x wq) k)) (ix4 0 ⟨p.val / 128, by omega⟩ i t)) * wo (ix2 p n) := by
  unfold result
  rw [product_apply]
  exact Finset.sum_congr rfl fun p _ => by rw [context_apply]

end Cert.ReferenceIdeal.Attn

end
-- ==== Proof.ValueEq.lean ====
/- The kernel's attention of one row at one column is the reference's, given the cut of the arrays over the devices and
   that the entries the scores are made of are reals. -/
module

public import proofs.«01_k».proof.Proof.KernelIdealValue
public import proofs.«01_k».proof.Proof.RefValue

@[expose] public section

noncomputable section

namespace Cert.Value

open Idealize.ShloMosaic Idealize.ShloMosaic.TcCoe Idealize.SL.Sem Cert.Attn
open Cert.KernelIdeal.RingAttn (inX inWq inK inV inWo qk sk ck outv)
open Cert.ReferenceIdeal.Attn (queries scores masked weightsOf result)

variable (m : (ℓ : Loc Cert.KernelIdeal.nD Cert.KernelIdeal.τ Cert.KernelIdeal.sig) → Buf (Elt Ideal) ℓ)
variable (ρ : Dev Cert.KernelIdeal.nD → PrngReg)
variable (X : FVec Ideal Cert.ReferenceIdeal.S1x4096x1024 .f32) (WQ : FVec Ideal Cert.ReferenceIdeal.S1024x4096 .f32)
  (K V : FVec Ideal Cert.ReferenceIdeal.S1x1024x32x128 .f32) (WO : FVec Ideal Cert.ReferenceIdeal.S4096x1024 .f32)

/-- The devices hold their parts of the whole arrays. -/
structure Parts : Prop where
  x : ∀ (c : Fin 4) (i d : Fin 1024), (inX m c (ix3 0 i d) : EReal) = X (ix3 0 ⟨1024 * c.val + i.val, by omega⟩ d)
  wq : ∀ (j : Fin 4) (d l : Fin 1024), (inWq m j (ix2 d l) : EReal) = WQ (ix2 d ⟨1024 * j.val + l.val, by omega⟩)
  k : ∀ (c : Fin 4) (t : Fin 1024) (h : Fin 32) (e : Fin 128), (inK m c (ix4 0 t h e) : EReal) = K (ix4 0 t h e)
  v : ∀ (c : Fin 4) (t : Fin 1024) (h : Fin 32) (e : Fin 128), (inV m c (ix4 0 t h e) : EReal) = V (ix4 0 t h e)
  wo : ∀ (j : Fin 4) (l n : Fin 1024), (inWo m j (ix2 l n) : EReal) = WO (ix2 ⟨1024 * j.val + l.val, by omega⟩ n)

/-- The entries the scores are made of are reals. -/
structure Reals : Prop where
  x : ∀ (i : Fin 4096) (d : Fin 1024), IsReal (X (ix3 0 i d))
  wq : ∀ (d : Fin 1024) (l : Fin 4096), IsReal (WQ (ix2 d l))
  k : ∀ (t : Fin 1024) (h : Fin 32) (e : Fin 128), IsReal (K (ix4 0 t h e))

variable {m X WQ K V WO} (hp : Parts m X WQ K V WO) (hr : Reals X WQ K)
include hp hr

theorem queries_real (i : Fin 4096) (h : Fin 32) (e : Fin 128) : IsReal (queries X WQ (ix4 0 i h e)) := by
  rw [Cert.ReferenceIdeal.Attn.queries_apply]
  exact IsReal.sum fun d => (hr.x i d).mul (hr.wq d _)

theorem scores_real (i : Fin 4096) (h : Fin 32) (t : Fin 1024) : IsReal (scores (queries X WQ) K (ix4 0 h i t)) := by
  rw [Cert.ReferenceIdeal.Attn.scores_apply]
  exact (IsReal.sum fun e => (queries_real hp hr i h e).mul (hr.k t h e)).mul scale_real

theorem sk_eq (c j : Fin 4) (i l t : Fin 1024) : sk m c j i l t
    = scores (queries X WQ) K (ix4 0 ⟨(1024 * j.val + l.val) / 128, by omega⟩ ⟨1024 * c.val + i.val, by omega⟩ t) := by
  rw [Cert.ReferenceIdeal.Attn.scores_apply, ← sum_scale (fun e => queries_real hp hr _ _ e) (fun e => hr.k t _ e) scale_real]
  unfold sk
  refine Finset.sum_congr rfl fun e _ => ?_
  have hh : (⟨8 * j.val + l.val / 128, by omega⟩ : Fin 32) = ⟨(1024 * j.val + l.val) / 128, by omega⟩ :=
    Fin.ext (by show 8 * j.val + l.val / 128 = (1024 * j.val + l.val) / 128; omega)
  rw [hp.k, hh]
  congr 1
  unfold qk
  rw [Cert.ReferenceIdeal.Attn.queries_apply]
  congr 1
  refine Finset.sum_congr rfl fun d _ => ?_
  rw [hp.x, hp.wq]
  congr 3
  refine Fin.ext ?_
  show 1024 * j.val + (128 * (l.val / 128) + e.val) = (1024 * j.val + l.val) / 128 * 128 + e.val
  omega

theorem ck_eq (c j : Fin 4) (i l : Fin 1024) : ck m c j i l
    = ∑ t : Fin 1024, V (ix4 0 t ⟨(1024 * j.val + l.val) / 128, by omega⟩ ⟨(1024 * j.val + l.val) % 128, by omega⟩)
        * weightsOf (masked (scores (queries X WQ) K))
            (ix4 0 ⟨(1024 * j.val + l.val) / 128, by omega⟩ ⟨1024 * c.val + i.val, by omega⟩ t) := by
  choose σ hσ using fun t => scores_real hp hr ⟨1024 * c.val + i.val, by omega⟩ ⟨(1024 * j.val + l.val) / 128, by omega⟩ t
  have hh : (⟨8 * j.val + l.val / 128, by omega⟩ : Fin 32) = ⟨(1024 * j.val + l.val) / 128, by omega⟩ :=
    Fin.ext (by show 8 * j.val + l.val / 128 = (1024 * j.val + l.val) / 128; omega)
  have he : (⟨l.val % 128, by omega⟩ : Fin 128) = ⟨(1024 * j.val + l.val) % 128, by omega⟩ :=
    Fin.ext (by show l.val % 128 = (1024 * j.val + l.val) % 128; omega)
  have hw : ∀ t, weightsOf (masked (scores (queries X WQ) K))
      (ix4 0 ⟨(1024 * j.val + l.val) / 128, by omega⟩ ⟨1024 * c.val + i.val, by omega⟩ t) = _ := fun t =>
    Cert.ReferenceIdeal.Attn.weightsOf_apply (scores (queries X WQ) K) 0 ⟨(1024 * j.val + l.val) / 128, by omega⟩
      ⟨1024 * c.val + i.val, by omega⟩ t σ hσ
  simp only [hw]
  unfold ck
  simp only [sk_eq hp hr, hσ, hp.v, hh, he]
  exact row_eq σ (fun t => kept (1024 * c.val + i.val) t.val) 0 (kept_zero _) _

/-- The result device `c` ends with is its rows of the reference's result. -/
theorem out_eq (c : Fin 4) (i n : Fin 1024) :
    (outv m ρ c (ix2 i n) : EReal) = result X WQ K V WO (ix2 ⟨1024 * c.val + i.val, by omega⟩ n) := by
  rw [Cert.ReferenceIdeal.Attn.result_apply, sum_chunks]
  refine Eq.trans (b := (∑ j : Fin 4, ∑ l : Fin 1024, ck m c j i l * (inWo m j (ix2 l n) : EReal) : EReal))
    (Cert.KernelIdeal.RingAttn.outv_apply m ρ c i n) ?_
  refine Finset.sum_congr rfl fun j _ => Finset.sum_congr rfl fun l _ => ?_
  exact congrArg₂ (· * ·) (ck_eq hp hr c j i l) (hp.wo j l n)

end Cert.Value

end
-- ==== Proof.Algebraic.lean ====
/- The kernel's result on each device is that device's rows of the reference's result. -/
module

public import proofs.«01_k».proof.Defs
public import proofs.«01_k».proof.Proof.Frames
public import proofs.«01_k».proof.Proof.PreFacts
public import proofs.«01_k».proof.Proof.ValueEq
public import Idealize.ShloMosaic.Lib.LayoutAt

@[expose] public section

noncomputable section

namespace Cert.Proof

open Idealize.ShloMosaic Idealize.ShloMosaic.TcCoe Idealize.SL.Sem Cert.Attn Cert.Value

/-! ### The cut of the arrays -/

/-- Device `c`'s part of an array of two axes whose rows are cut in four. -/
theorem block_rows (c : Fin 4) (h : Layout.Tiles ⟨2, ![1024, 1024]⟩ ⟨2, ![4096, 1024]⟩ 0 4)
    (v : FVec Ideal ⟨2, ![4096, 1024]⟩ .f32) (i n : Fin 1024) :
    (Layout.block ⟨2, ![1024, 1024]⟩ ⟨2, ![4096, 1024]⟩ 0 4 c v h : FVec Ideal ⟨2, ![1024, 1024]⟩ .f32) (ix2 i n)
      = v (ix2 ⟨1024 * c.val + i.val, by omega⟩ n) := by
  refine congrArg v (funext fun a => Fin.ext ?_)
  fin_cases a
  · exact (h.idx_val_self c (ix2 i n) _ rfl).trans (by show c.val * 1024 + i.val = 1024 * c.val + i.val; omega)
  · exact h.idx_val_of_ne c (ix2 i n) (b := 1) (by decide)

/-- Device `c`'s part of an array of two axes whose columns are cut in four. -/
theorem block_cols (c : Fin 4) (h : Layout.Tiles ⟨2, ![1024, 1024]⟩ ⟨2, ![1024, 4096]⟩ 1 4)
    (v : FVec Ideal ⟨2, ![1024, 4096]⟩ .f32) (d l : Fin 1024) :
    (Layout.block ⟨2, ![1024, 1024]⟩ ⟨2, ![1024, 4096]⟩ 1 4 c v h : FVec Ideal ⟨2, ![1024, 1024]⟩ .f32) (ix2 d l)
      = v (ix2 d ⟨1024 * c.val + l.val, by omega⟩) := by
  refine congrArg v (funext fun a => Fin.ext ?_)
  fin_cases a
  · exact h.idx_val_of_ne c (ix2 d l) (b := 0) (by decide)
  · exact (h.idx_val_self c (ix2 d l) _ rfl).trans (by show c.val * 1024 + l.val = 1024 * c.val + l.val; omega)

/-- Device `c`'s part of an array of three axes whose middle axis is cut in four. -/
theorem block_mid (c : Fin 4) (h : Layout.Tiles ⟨3, ![1, 1024, 1024]⟩ ⟨3, ![1, 4096, 1024]⟩ 1 4)
    (v : FVec Ideal ⟨3, ![1, 4096, 1024]⟩ .f32) (i d : Fin 1024) :
    (Layout.block ⟨3, ![1, 1024, 1024]⟩ ⟨3, ![1, 4096, 1024]⟩ 1 4 c v h : FVec Ideal ⟨3, ![1, 1024, 1024]⟩ .f32) (ix3 0 i d)
      = v (ix3 0 ⟨1024 * c.val + i.val, by omega⟩ d) := by
  refine congrArg v (funext fun a => Fin.ext ?_)
  fin_cases a
  · exact h.idx_val_of_ne c (ix3 0 i d) (b := 0) (by decide)
  · exact (h.idx_val_self c (ix3 0 i d) _ rfl).trans (by show c.val * 1024 + i.val = 1024 * c.val + i.val; omega)
  · exact h.idx_val_of_ne c (ix3 0 i d) (b := 2) (by decide)

/-! ### The claim -/

theorem algebraic : Cert.algebraic_KernelIdeal_ReferenceIdeal_pre_finite_inputs_KernelIdeal
    (hKernelIdeal := Cert.KernelIdeal.Gen.facts) (hReferenceIdeal := Cert.ReferenceIdeal.Gen.facts)
    (hPre_finite_inputs_KernelIdeal := Cert.Pre_finite_inputs_KernelIdeal.facts) := by
  intro m g m' g' hpre hin
  let X : FVec Ideal Cert.ReferenceIdeal.S1x4096x1024 .f32 :=
    m' (((0 : Dev Cert.ReferenceIdeal.nD).tc : Thread Cert.ReferenceIdeal.nD Cert.ReferenceIdeal.τ).loc Cert.ReferenceIdeal.main_arg0)
  let WQ : FVec Ideal Cert.ReferenceIdeal.S1024x4096 .f32 :=
    m' (((0 : Dev Cert.ReferenceIdeal.nD).tc : Thread Cert.ReferenceIdeal.nD Cert.ReferenceIdeal.τ).loc Cert.ReferenceIdeal.main_arg1)
  let K : FVec Ideal Cert.ReferenceIdeal.S1x1024x32x128 .f32 :=
    m' (((0 : Dev Cert.ReferenceIdeal.nD).tc : Thread Cert.ReferenceIdeal.nD Cert.ReferenceIdeal.τ).loc Cert.ReferenceIdeal.main_arg2)
  let V : FVec Ideal Cert.ReferenceIdeal.S1x1024x32x128 .f32 :=
    m' (((0 : Dev Cert.ReferenceIdeal.nD).tc : Thread Cert.ReferenceIdeal.nD Cert.ReferenceIdeal.τ).loc Cert.ReferenceIdeal.main_arg3)
  let WO : FVec Ideal Cert.ReferenceIdeal.S4096x1024 .f32 :=
    m' (((0 : Dev Cert.ReferenceIdeal.nD).tc : Thread Cert.ReferenceIdeal.nD Cert.ReferenceIdeal.τ).loc Cert.ReferenceIdeal.main_arg4)
  have hp : Parts m X WQ K V WO :=
    { x := fun c i d => (congrFun (hin c).1 (ix3 0 i d)).trans (block_mid c _ X i d)
      wq := fun j d l => (congrFun (hin j).2.1 (ix2 d l)).trans (block_cols j _ WQ d l)
      k := fun c t h e => congrFun (hin c).2.2.1 (ix4 0 t h e)
      v := fun c t h e => congrFun (hin c).2.2.2.1 (ix4 0 t h e)
      wo := fun j l n => (congrFun (hin j).2.2.2.2 (ix2 l n)).trans (block_rows j _ WO l n) }
  have hf := fun c : Fin 4 => Cert.Pre_finite_inputs_KernelIdeal.reals _ _ _ _ _ (hpre c)
  have hr : Reals X WQ K :=
    { x := fun i d => by
        have h := (hf ⟨i.val / 1024, by omega⟩).1 (ix3 0 ⟨i.val % 1024, by omega⟩ d)
        have e := hp.x ⟨i.val / 1024, by omega⟩ ⟨i.val % 1024, by omega⟩ d
        have hi : (⟨1024 * (i.val / 1024) + i.val % 1024, by omega⟩ : Fin 4096) = i := Fin.ext (by show 1024 * (i.val / 1024) + i.val % 1024 = i.val; omega)
        rw [hi] at e
        exact e ▸ h
      wq := fun d l => by
        have h := (hf ⟨l.val / 1024, by omega⟩).2.1 (ix2 d ⟨l.val % 1024, by omega⟩)
        have e := hp.wq ⟨l.val / 1024, by omega⟩ d ⟨l.val % 1024, by omega⟩
        have hi : (⟨1024 * (l.val / 1024) + l.val % 1024, by omega⟩ : Fin 4096) = l := Fin.ext (by show 1024 * (l.val / 1024) + l.val % 1024 = l.val; omega)
        rw [hi] at e
        exact e ▸ h
      k := fun t h e => (hp.k 0 t h e) ▸ (hf 0).2.2 (ix4 0 t h e) }
  refine ⟨Cert.ReferenceIdeal.Attn.result (F := Ideal) X WQ K V WO, ?_, ?_⟩
  · refine (θ_run _ _ _).mono (fun r h c => ⟨?_, Cert.KernelIdeal.RingAttn.kept_of m g h.1 c⟩) (Cert.KernelIdeal.RingAttn.run_main m g)
    refine (((h.1 c).1 3).trans (Cert.KernelIdeal.RingAttn.final_out m g c)).trans ?_
    funext y
    obtain ⟨i, n, rfl⟩ : ∃ (i n : Fin 1024), y = ix2 i n := ⟨y 0, y 1, by funext a; fin_cases a <;> rfl⟩
    exact (out_eq g hp hr c i n).trans (block_rows c _ _ i n).symm
  · exact (θ_run _ _ _).mono (fun r h => ⟨(h 0).1.trans (Cert.ReferenceIdeal.Attn.res_eq m' 0), (h 0).2⟩)
      (Cert.ReferenceIdeal.Value.run m' g')

end Cert.Proof

end
-- ==== Proof.lean ====
module

public import proofs.«01_k».proof.Defs
public import proofs.«01_k».proof.Proof.Frames
public import proofs.«01_k».proof.Proof.Algebraic

@[expose] public section

noncomputable section

theorem Cert.Proof.claim : Cert.Claim :=
  ⟨Cert.Kernel.Gen.facts, Cert.KernelIdeal.Gen.facts, Cert.ReferenceIdeal.Gen.facts,
    Cert.Pre_finite_inputs_KernelIdeal.facts, Cert.Pre_finite_inputs_ReferenceIdeal.facts,
    frame_kernel, frame_kernelIdeal, fun m g _ => frame_kernelIdeal m g trivial,
    frame_referenceIdeal, fun m g _ => frame_referenceIdeal m g trivial, preserves, algebraic⟩

end
